-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_rows [hPre_first_rows : Cert.Pre_first_rows.Facts] (m : (ℓ : Loc Cert.KernelIdeal.nD Cert.KernelIdeal.τ Cert.KernelIdeal.sig) → Buf (Elt Ideal) ℓ) : Prop :=
  ∀ c : Dev Cert.KernelIdeal.nD,
    (Cert.Pre_first_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_rows [hPre_first_rows : Cert.Pre_first_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_first_rows [hKernelIdeal : Cert.KernelIdeal.Facts] [hPre_first_rows : Cert.Pre_first_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_first_rows [hReferenceIdeal : Cert.ReferenceIdeal.Facts] [hPre_first_rows : Cert.Pre_first_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_first_rows [hKernelIdeal : Cert.KernelIdeal.Facts] [hReferenceIdeal : Cert.ReferenceIdeal.Facts] [hPre_first_rows : Cert.Pre_first_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_first_rows : Cert.Pre_first_rows.Facts),
    quiescent_Kernel (hKernel := hKernel)
    ∧ quiescent_KernelIdeal (hKernelIdeal := hKernelIdeal)
    ∧ quiescent_KernelIdeal_pre_first_rows (hKernelIdeal := hKernelIdeal) (hPre_first_rows := hPre_first_rows)
    ∧ quiescent_ReferenceIdeal (hReferenceIdeal := hReferenceIdeal)
    ∧ quiescent_ReferenceIdeal_pre_first_rows (hReferenceIdeal := hReferenceIdeal) (hPre_first_rows := hPre_first_rows)
    ∧ preserves_Kernel_KernelIdeal
    ∧ algebraic_KernelIdeal_ReferenceIdeal_pre_first_rows (hKernelIdeal := hKernelIdeal) (hReferenceIdeal := hReferenceIdeal) (hPre_first_rows := hPre_first_rows)
-- ==== Pre_first_rows.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  reducesTo_S4096_S_d0 : S4096.ReducesTo [0] S_
  h_S_ : 0 < S_.numel

variable [Facts]

def fn {F : FTy → Type} [FloatOps F] (main_arg0 : FVec F S8192x4096 .f32) (main_arg1 : FVec F S4096x4096 .f32) (main_arg2 : IVec S4096 32) : IVec S_ 1 :=
  let main_v0 : IVec S4096 32 := iotaInDim S4096 32 0
  let main_v1 : IVec S4096 1 := cmpi .eq main_arg2 main_v0
  let main_c : IVec S_ 1 := constantI S_ 1 1#1
  let main_v2 : IVec S_ 1 := (fun x v => Host.reduce IntOp.andi x v reducesTo_S4096_S_d0 h_S_) main_v1 main_c
  main_v2
-- ==== Kernel.lean ====
abbrev S8192x4096 : Shape := ⟨2, ![8192, 4096]⟩
abbrev S4096x4096 : Shape := ⟨2, ![4096, 4096]⟩
abbrev S4096 : Shape := ⟨1, ![4096]⟩
abbrev S16x4x4x4096 : Shape := ⟨4, ![16, 4, 4, 4096]⟩
abbrev S_ : Shape := ⟨0, ![]⟩
abbrev S1x1x4x4096 : Shape := ⟨4, ![1, 1, 4, 4096]⟩
abbrev S4x4096 : Shape := ⟨2, ![4, 4096]⟩

abbrev nBuf : Table → Nat
  | .hbm => 4
  | .shared => 1
  | _ => 0

abbrev bufTy : (tb : Table) → Fin (nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S8192x4096, .f32⟩
  | .shared, ⟨0, _⟩ => ⟨S16x4x4x4096, .f32⟩
  | _, _ => ⟨S8192x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 1 := Scalar.cmpi .slt v1 c16_i32
  let v4 : BitVec 32 := Scalar.extui v3
  let c0_i32 : BitVec 32 := 0#32
  let v5 : BitVec 1 := Scalar.cmpi .ne v4 c0_i32
  v5

def k0_off1 (i : grid0.Coords) : Fin 4 → Nat :=
  let arg1 : BitVec 32 := BitVec.ofNat 32 (i 1).val
  let c0_i32_3 : BitVec 32 := 0#32
  let c0_i32_4 : BitVec 32 := 0#32
  let c0_i32_5 : BitVec 32 := 0#32
  ![arg1.toNat, 0, 0, 0]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v9 : BitVec 32 := Scalar.addi v2 c0_i32_2
  let c0_i32_6 : BitVec 32 := 0#32
  ![v9.toNat, 0]
def k0_off3 (i : grid0.Coords) : Fin 4 → Nat :=
  let arg1 : BitVec 32 := BitVec.ofNat 32 (i 1).val
  let c1_i32 : BitVec 32 := 1#32
  let c0_i32_7 : BitVec 32 := 0#32
  let c0_i32_8 : BitVec 32 := 0#32
  ![arg1.toNat, 1, 0, 0]
def k0_off4 (i : grid0.Coords) : Fin 4 → Nat :=
  let arg1 : BitVec 32 := BitVec.ofNat 32 (i 1).val
  let c2_i32_10 : BitVec 32 := 2#32
  let c0_i32_11 : BitVec 32 := 0#32
  let c0_i32_12 : BitVec 32 := 0#32
  ![arg1.toNat, 2, 0, 0]
@[reducible] def k0_t1_loop : Scf.Loop 32 :=
  let c0_i32_15 : BitVec 32 := 0#32
  let c16_i32_16 : BitVec 32 := 16#32
  let v21 : BitVec 32 := Scalar.addi c0_i32_15 c16_i32_16
  let c1_i32_17 : BitVec 32 := 1#32
  ⟨c0_i32_15, v21, c1_i32_17⟩
def k0_off5 (i : grid0.Coords) : Fin 4 → Nat :=
  let arg1 : BitVec 32 := BitVec.ofNat 32 (i 1).val
  let c0_i32_40 : BitVec 32 := 0#32
  let c0_i32_41 : BitVec 32 := 0#32
  let c0_i32_42 : BitVec 32 := 0#32
  ![arg1.toNat, 0, 0, 0]
def k0_off6 (i : grid0.Coords) (k0_t1 : Fin k0_t1_loop.trips) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t1
  let c4_i32_38 : BitVec 32 := 4#32
  let v34 : BitVec 32 := Scalar.muli arg14 c4_i32_38
  let v35 : BitVec 32 := Scalar.addi v34 c0_i32_39
  let c4_i32_45 : BitVec 32 := 4#32
  let v39 : BitVec 32 := Scalar.muli v35 c4_i32_45
  let v40 : BitVec 32 := Scalar.addi v2 v39
  let c0_i32_47 : BitVec 32 := 0#32
  ![v40.toNat, 0]
def k0_cond2 (k0_t1 : Fin k0_t1_loop.trips) : BitVec 1 :=
  let c0_i32_15 : BitVec 32 := 0#32
  let c1_i32_17 : BitVec 32 := 1#32
  let arg14 : BitVec 32 := Scf.iv c0_i32_15 c1_i32_17 k0_t1
  let c1_i32_54 : BitVec 32 := 1#32
  let v48 : BitVec 1 := Scalar.cmpi .sge arg14 c1_i32_54
  let v49 : BitVec 32 := Scalar.extui v48
  let c0_i32_55 : BitVec 32 := 0#32
  let v50 : BitVec 1 := Scalar.cmpi .ne v49 c0_i32_55
  v50

def k0_off7 (i : grid0.Coords) : Fin 4 → Nat :=
  let arg1 : BitVec 32 := BitVec.ofNat 32 (i 1).val
  let c3_i32_114 : BitVec 32 := 3#32
  let c0_i32_117 : BitVec 32 := 0#32
  let c0_i32_118 : BitVec 32 := 0#32
  ![arg1.toNat, 3, 0, 0]
def k0_off8 (i : grid0.Coords) : Fin 4 → Nat :=
  let arg1 : BitVec 32 := BitVec.ofNat 32 (i 1).val
  let c3_i32_57 : BitVec 32 := 3#32
  let c0_i32_58 : BitVec 32 := 0#32
  let c0_i32_59 : BitVec 32 := 0#32
  ![arg1.toNat, 3, 0, 0]
def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t1
  let c4_i32_50 : BitVec 32 := 4#32
  let v44 : BitVec 32 := Scalar.muli arg14 c4_i32_50
  let c0_i32_51 : BitVec 32 := 0#32
  let v45 : BitVec 32 := Scalar.addi v44 c0_i32_51
  let c4_i32_52 : BitVec 32 := 4#32
  let v46 : BitVec 32 := Scalar.addi v45 c4_i32_52
  let c1_i32_53 : BitVec 32 := 1#32
  let v47 : BitVec 32 := Scalar.subi v46 c1_i32_53
  let c4_i32_56 : BitVec 32 := 4#32
  let v51 : BitVec 32 := Scalar.muli v47 c4_i32_56
  let v52 : BitVec 32 := Scalar.addi v2 v51
  let c0_i32_60 : BitVec 32 := 0#32
  ![v52.toNat, 0]
def k0_off10 (i : grid0.Coords) : Fin 4 → Nat :=
  let arg1 : BitVec 32 := BitVec.ofNat 32 (i 1).val
  let c1_i32_63 : BitVec 32 := 1#32
  let c0_i32_64 : BitVec 32 := 0#32
  let c0_i32_65 : BitVec 32 := 0#32
  ![arg1.toNat, 1, 0, 0]
def k0_cond3 (k0_t1 : Fin k0_t1_loop.trips) : BitVec 1 :=
  let c0_i32_15 : BitVec 32 := 0#32
  let c1_i32_17 : BitVec 32 := 1#32
  let arg14 : BitVec 32 := Scf.iv c0_i32_15 c1_i32_17 k0_t1
  let c4_i32_73 : BitVec 32 := 4#32
  let v66 : BitVec 32 := Scalar.muli arg14 c4_i32_73
  let c1_i32_74 : BitVec 32 := 1#32
  let v67 : BitVec 32 := Scalar.addi v66 c1_i32_74
  let c4_i32_75 : BitVec 32 := 4#32
  let v68 : BitVec 32 := Scalar.addi v67 c4_i32_75
  let c1_i32_76 : BitVec 32 := 1#32
  let v69 : BitVec 32 := Scalar.subi v68 c1_i32_76
  let c64_i32 : BitVec 32 := 64#32
  let v70 : BitVec 1 := Scalar.cmpi .slt v69 c64_i32
  let v71 : BitVec 32 := Scalar.extui v70
  let c0_i32_77 : BitVec 32 := 0#32
  let v72 : BitVec 1 := Scalar.cmpi .ne v71 c0_i32_77
  v72

def k0_off11 (i : grid0.Coords) : Fin 4 → Nat :=
  let arg1 : BitVec 32 := BitVec.ofNat 32 (i 1).val
  let c0_i32_114 : BitVec 32 := 0#32
  let c0_i32_117 : BitVec 32 := 0#32
  let c0_i32_118 : BitVec 32 := 0#32
  ![arg1.toNat, 0, 0, 0]
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t1
  let c4_i32_73 : BitVec 32 := 4#32
  let v66 : BitVec 32 := Scalar.muli arg14 c4_i32_73
  let c1_i32_74 : BitVec 32 := 1#32
  let v67 : BitVec 32 := Scalar.addi v66 c1_i32_74
  let c4_i32_75 : BitVec 32 := 4#32
  let v68 : BitVec 32 := Scalar.addi v67 c4_i32_75
  let c1_i32_76 : BitVec 32 := 1#32
  let v69 : BitVec 32 := Scalar.subi v68 c1_i32_76
  let c4_i32_119 : BitVec 32 := 4#32
  let v110 : BitVec 32 := Scalar.muli v69 c4_i32_119
  let v111 : BitVec 32 := Scalar.addi v2 v110
  let c0_i32_123 : BitVec 32 := 0#32
  ![v111.toNat, 0]
def k0_off13 (i : grid0.Coords) : Fin 4 → Nat :=
  let arg1 : BitVec 32 := BitVec.ofNat 32 (i 1).val
  let c2_i32_80 : BitVec 32 := 2#32
  let c0_i32_81 : BitVec 32 := 0#32
  let c0_i32_82 : BitVec 32 := 0#32
  ![arg1.toNat, 2, 0, 0]
def k0_cond4 (k0_t1 : Fin k0_t1_loop.trips) : BitVec 1 :=
  let c0_i32_15 : BitVec 32 := 0#32
  let c1_i32_17 : BitVec 32 := 1#32
  let arg14 : BitVec 32 := Scf.iv c0_i32_15 c1_i32_17 k0_t1
  let c4_i32_90 : BitVec 32 := 4#32
  let v83 : BitVec 32 := Scalar.muli arg14 c4_i32_90
  let c2_i32_91 : BitVec 32 := 2#32
  let v84 : BitVec 32 := Scalar.addi v83 c2_i32_91
  let c4_i32_92 : BitVec 32 := 4#32
  let v85 : BitVec 32 := Scalar.addi v84 c4_i32_92
  let c1_i32_93 : BitVec 32 := 1#32
  let v86 : BitVec 32 := Scalar.subi v85 c1_i32_93
  let c64_i32_94 : BitVec 32 := 64#32
  let v87 : BitVec 1 := Scalar.cmpi .slt v86 c64_i32_94
  let v88 : BitVec 32 := Scalar.extui v87
  let c0_i32_95 : BitVec 32 := 0#32
  let v89 : BitVec 1 := Scalar.cmpi .ne v88 c0_i32_95
  v89

def k0_off14 (i : grid0.Coords) : Fin 4 → Nat :=
  let arg1 : BitVec 32 := BitVec.ofNat 32 (i 1).val
  let c1_i32_114 : BitVec 32 := 1#32
  let c0_i32_117 : BitVec 32 := 0#32
  let c0_i32_118 : BitVec 32 := 0#32
  ![arg1.toNat, 1, 0, 0]
def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t1
  let c4_i32_90 : BitVec 32 := 4#32
  let v83 : BitVec 32 := Scalar.muli arg14 c4_i32_90
  let c2_i32_91 : BitVec 32 := 2#32
  let v84 : BitVec 32 := Scalar.addi v83 c2_i32_91
  let c4_i32_92 : BitVec 32 := 4#32
  let v85 : BitVec 32 := Scalar.addi v84 c4_i32_92
  let c1_i32_93 : BitVec 32 := 1#32
  let v86 : BitVec 32 := Scalar.subi v85 c1_i32_93
  let c4_i32_119 : BitVec 32 := 4#32
  let v110 : BitVec 32 := Scalar.muli v86 c4_i32_119
  let v111 : BitVec 32 := Scalar.addi v2 v110
  let c0_i32_123 : BitVec 32 := 0#32
  ![v111.toNat, 0]
def k0_cond5 (k0_t1 : Fin k0_t1_loop.trips) : BitVec 1 :=
  let c0_i32_15 : BitVec 32 := 0#32
  let c1_i32_17 : BitVec 32 := 1#32
  let arg14 : BitVec 32 := Scf.iv c0_i32_15 c1_i32_17 k0_t1
  let c4_i32_108 : BitVec 32 := 4#32
  let v100 : BitVec 32 := Scalar.muli arg14 c4_i32_108
  let c3_i32_109 : BitVec 32 := 3#32
  let v101 : BitVec 32 := Scalar.addi v100 c3_i32_109
  let c4_i32_110 : BitVec 32 := 4#32
  let v102 : BitVec 32 := Scalar.addi v101 c4_i32_110
  let c1_i32_111 : BitVec 32 := 1#32
  let v103 : BitVec 32 := Scalar.subi v102 c1_i32_111
  let c64_i32_112 : BitVec 32 := 64#32
  let v104 : BitVec 1 := Scalar.cmpi .slt v103 c64_i32_112
  let v105 : BitVec 32 := Scalar.extui v104
  let c0_i32_113 : BitVec 32 := 0#32
  let v106 : BitVec 1 := Scalar.cmpi .ne v105 c0_i32_113
  v106

def k0_off16 (i : grid0.Coords) : Fin 4 → Nat :=
  let arg1 : BitVec 32 := BitVec.ofNat 32 (i 1).val
  let c2_i32_114 : BitVec 32 := 2#32
  let c0_i32_117 : BitVec 32 := 0#32
  let c0_i32_118 : BitVec 32 := 0#32
  ![arg1.toNat, 2, 0, 0]
def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t1
  let c4_i32_108 : BitVec 32 := 4#32
  let v100 : BitVec 32 := Scalar.muli arg14 c4_i32_108
  let c3_i32_109 : BitVec 32 := 3#32
  let v101 : BitVec 32 := Scalar.addi v100 c3_i32_109
  let c4_i32_110 : BitVec 32 := 4#32
  let v102 : BitVec 32 := Scalar.addi v101 c4_i32_110
  let c1_i32_111 : BitVec 32 := 1#32
  let v103 : BitVec 32 := Scalar.subi v102 c1_i32_111
  let c4_i32_119 : BitVec 32 := 4#32
  let v110 : BitVec 32 := Scalar.muli v103 c4_i32_119
  let v111 : BitVec 32 := Scalar.addi v2 v110
  let c0_i32_123 : BitVec 32 := 0#32
  ![v111.toNat, 0]
def k0_off18 (i : grid0.Coords) : Fin 4 → Nat :=
  let arg1 : BitVec 32 := BitVec.ofNat 32 (i 1).val
  let c3_i32 : BitVec 32 := 3#32
  let c0_i32_36 : BitVec 32 := 0#32
  let c0_i32_37 : BitVec 32 := 0#32
  ![arg1.toNat, 3, 0, 0]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_0 : BitVec 32 := 16#32
  let v6 : BitVec 1 := Scalar.cmpi .sge v1 c16_i32_0
  let v7 : BitVec 32 := Scalar.extui v6
  let c0_i32_1 : BitVec 32 := 0#32
  let v8 : BitVec 1 := Scalar.cmpi .ne v7 c0_i32_1
  v8

def k0_off19 (i : grid0.Coords) : Fin 4 → Nat :=
  let arg1 : BitVec 32 := BitVec.ofNat 32 (i 1).val
  let c0_i32_3 : BitVec 32 := 0#32
  let c0_i32_4 : BitVec 32 := 0#32
  let c0_i32_5 : BitVec 32 := 0#32
  ![arg1.toNat, 0, 0, 0]
def k0_off20 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v9 : BitVec 32 := Scalar.addi v2 c0_i32_2
  let c0_i32_6 : BitVec 32 := 0#32
  ![v9.toNat, 0]
def k0_off21 (i : grid0.Coords) : Fin 4 → Nat :=
  let arg1 : BitVec 32 := BitVec.ofNat 32 (i 1).val
  let c1_i32 : BitVec 32 := 1#32
  let c0_i32_7 : BitVec 32 := 0#32
  let c0_i32_8 : BitVec 32 := 0#32
  ![arg1.toNat, 1, 0, 0]
def k0_off22 (i : grid0.Coords) : Fin 4 → Nat :=
  let arg1 : BitVec 32 := BitVec.ofNat 32 (i 1).val
  let c2_i32_10 : BitVec 32 := 2#32
  let c0_i32_11 : BitVec 32 := 0#32
  let c0_i32_12 : BitVec 32 := 0#32
  ![arg1.toNat, 2, 0, 0]
@[reducible] def k0_t2_loop : Scf.Loop 32 :=
  let c0_i32_15 : BitVec 32 := 0#32
  let c16_i32_16 : BitVec 32 := 16#32
  let v21 : BitVec 32 := Scalar.addi c0_i32_15 c16_i32_16
  let c1_i32_17 : BitVec 32 := 1#32
  ⟨c0_i32_15, v21, c1_i32_17⟩
def k0_off23 (i : grid0.Coords) : Fin 4 → Nat :=
  let arg1 : BitVec 32 := BitVec.ofNat 32 (i 1).val
  let c0_i32_40 : BitVec 32 := 0#32
  let c0_i32_41 : BitVec 32 := 0#32
  let c0_i32_42 : BitVec 32 := 0#32
  ![arg1.toNat, 0, 0, 0]
def k0_off24 (i : grid0.Coords) (k0_t2 : Fin k0_t2_loop.trips) (c0_i32_39 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t2
  let c4_i32_38 : BitVec 32 := 4#32
  let v34 : BitVec 32 := Scalar.muli arg14 c4_i32_38
  let v35 : BitVec 32 := Scalar.addi v34 c0_i32_39
  let c4_i32_45 : BitVec 32 := 4#32
  let v39 : BitVec 32 := Scalar.muli v35 c4_i32_45
  let v40 : BitVec 32 := Scalar.addi v2 v39
  let c0_i32_47 : BitVec 32 := 0#32
  ![v40.toNat, 0]
def k0_cond7 (k0_t2 : Fin k0_t2_loop.trips) : BitVec 1 :=
  let c0_i32_15 : BitVec 32 := 0#32
  let c1_i32_17 : BitVec 32 := 1#32
  let arg14 : BitVec 32 := Scf.iv c0_i32_15 c1_i32_17 k0_t2
  let c1_i32_54 : BitVec 32 := 1#32
  let v48 : BitVec 1 := Scalar.cmpi .sge arg14 c1_i32_54
  let v49 : BitVec 32 := Scalar.extui v48
  let c0_i32_55 : BitVec 32 := 0#32
  let v50 : BitVec 1 := Scalar.cmpi .ne v49 c0_i32_55
  v50

def k0_off25 (i : grid0.Coords) : Fin 4 → Nat :=
  let arg1 : BitVec 32 := BitVec.ofNat 32 (i 1).val
  let c3_i32_114 : BitVec 32 := 3#32
  let c0_i32_117 : BitVec 32 := 0#32
  let c0_i32_118 : BitVec 32 := 0#32
  ![arg1.toNat, 3, 0, 0]
def k0_off26 (i : grid0.Coords) : Fin 4 → Nat :=
  let arg1 : BitVec 32 := BitVec.ofNat 32 (i 1).val
  let c3_i32_57 : BitVec 32 := 3#32
  let c0_i32_58 : BitVec 32 := 0#32
  let c0_i32_59 : BitVec 32 := 0#32
  ![arg1.toNat, 3, 0, 0]
def k0_off27 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t2
  let c4_i32_50 : BitVec 32 := 4#32
  let v44 : BitVec 32 := Scalar.muli arg14 c4_i32_50
  let c0_i32_51 : BitVec 32 := 0#32
  let v45 : BitVec 32 := Scalar.addi v44 c0_i32_51
  let c4_i32_52 : BitVec 32 := 4#32
  let v46 : BitVec 32 := Scalar.addi v45 c4_i32_52
  let c1_i32_53 : BitVec 32 := 1#32
  let v47 : BitVec 32 := Scalar.subi v46 c1_i32_53
  let c4_i32_56 : BitVec 32 := 4#32
  let v51 : BitVec 32 := Scalar.muli v47 c4_i32_56
  let v52 : BitVec 32 := Scalar.addi v2 v51
  let c0_i32_60 : BitVec 32 := 0#32
  ![v52.toNat, 0]
def k0_off28 (i : grid0.Coords) : Fin 4 → Nat :=
  let arg1 : BitVec 32 := BitVec.ofNat 32 (i 1).val
  let c1_i32_63 : BitVec 32 := 1#32
  let c0_i32_64 : BitVec 32 := 0#32
  let c0_i32_65 : BitVec 32 := 0#32
  ![arg1.toNat, 1, 0, 0]
def k0_cond8 (k0_t2 : Fin k0_t2_loop.trips) : BitVec 1 :=
  let c0_i32_15 : BitVec 32 := 0#32
  let c1_i32_17 : BitVec 32 := 1#32
  let arg14 : BitVec 32 := Scf.iv c0_i32_15 c1_i32_17 k0_t2
  let c4_i32_73 : BitVec 32 := 4#32
  let v66 : BitVec 32 := Scalar.muli arg14 c4_i32_73
  let c1_i32_74 : BitVec 32 := 1#32
  let v67 : BitVec 32 := Scalar.addi v66 c1_i32_74
  let c4_i32_75 : BitVec 32 := 4#32
  let v68 : BitVec 32 := Scalar.addi v67 c4_i32_75
  let c1_i32_76 : BitVec 32 := 1#32
  let v69 : BitVec 32 := Scalar.subi v68 c1_i32_76
  let c64_i32 : BitVec 32 := 64#32
  let v70 : BitVec 1 := Scalar.cmpi .slt v69 c64_i32
  let v71 : BitVec 32 := Scalar.extui v70
  let c0_i32_77 : BitVec 32 := 0#32
  let v72 : BitVec 1 := Scalar.cmpi .ne v71 c0_i32_77
  v72

def k0_off29 (i : grid0.Coords) : Fin 4 → Nat :=
  let arg1 : BitVec 32 := BitVec.ofNat 32 (i 1).val
  let c0_i32_114 : BitVec 32 := 0#32
  let c0_i32_117 : BitVec 32 := 0#32
  let c0_i32_118 : BitVec 32 := 0#32
  ![arg1.toNat, 0, 0, 0]
def k0_off30 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t2
  let c4_i32_73 : BitVec 32 := 4#32
  let v66 : BitVec 32 := Scalar.muli arg14 c4_i32_73
  let c1_i32_74 : BitVec 32 := 1#32
  let v67 : BitVec 32 := Scalar.addi v66 c1_i32_74
  let c4_i32_75 : BitVec 32 := 4#32
  let v68 : BitVec 32 := Scalar.addi v67 c4_i32_75
  let c1_i32_76 : BitVec 32 := 1#32
  let v69 : BitVec 32 := Scalar.subi v68 c1_i32_76
  let c4_i32_119 : BitVec 32 := 4#32
  let v110 : BitVec 32 := Scalar.muli v69 c4_i32_119
  let v111 : BitVec 32 := Scalar.addi v2 v110
  let c0_i32_123 : BitVec 32 := 0#32
  ![v111.toNat, 0]
def k0_off31 (i : grid0.Coords) : Fin 4 → Nat :=
  let arg1 : BitVec 32 := BitVec.ofNat 32 (i 1).val
  let c2_i32_80 : BitVec 32 := 2#32
  let c0_i32_81 : BitVec 32 := 0#32
  let c0_i32_82 : BitVec 32 := 0#32
  ![arg1.toNat, 2, 0, 0]
def k0_cond9 (k0_t2 : Fin k0_t2_loop.trips) : BitVec 1 :=
  let c0_i32_15 : BitVec 32 := 0#32
  let c1_i32_17 : BitVec 32 := 1#32
  let arg14 : BitVec 32 := Scf.iv c0_i32_15 c1_i32_17 k0_t2
  let c4_i32_90 : BitVec 32 := 4#32
  let v83 : BitVec 32 := Scalar.muli arg14 c4_i32_90
  let c2_i32_91 : BitVec 32 := 2#32
  let v84 : BitVec 32 := Scalar.addi v83 c2_i32_91
  let c4_i32_92 : BitVec 32 := 4#32
  let v85 : BitVec 32 := Scalar.addi v84 c4_i32_92
  let c1_i32_93 : BitVec 32 := 1#32
  let v86 : BitVec 32 := Scalar.subi v85 c1_i32_93
  let c64_i32_94 : BitVec 32 := 64#32
  let v87 : BitVec 1 := Scalar.cmpi .slt v86 c64_i32_94
  let v88 : BitVec 32 := Scalar.extui v87
  let c0_i32_95 : BitVec 32 := 0#32
  let v89 : BitVec 1 := Scalar.cmpi .ne v88 c0_i32_95
  v89

def k0_off32 (i : grid0.Coords) : Fin 4 → Nat :=
  let arg1 : BitVec 32 := BitVec.ofNat 32 (i 1).val
  let c1_i32_114 : BitVec 32 := 1#32
  let c0_i32_117 : BitVec 32 := 0#32
  let c0_i32_118 : BitVec 32 := 0#32
  ![arg1.toNat, 1, 0, 0]
def k0_off33 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t2
  let c4_i32_90 : BitVec 32 := 4#32
  let v83 : BitVec 32 := Scalar.muli arg14 c4_i32_90
  let c2_i32_91 : BitVec 32 := 2#32
  let v84 : BitVec 32 := Scalar.addi v83 c2_i32_91
  let c4_i32_92 : BitVec 32 := 4#32
  let v85 : BitVec 32 := Scalar.addi v84 c4_i32_92
  let c1_i32_93 : BitVec 32 := 1#32
  let v86 : BitVec 32 := Scalar.subi v85 c1_i32_93
  let c4_i32_119 : BitVec 32 := 4#32
  let v110 : BitVec 32 := Scalar.muli v86 c4_i32_119
  let v111 : BitVec 32 := Scalar.addi v2 v110
  let c0_i32_123 : BitVec 32 := 0#32
  ![v111.toNat, 0]
def k0_cond10 (k0_t2 : Fin k0_t2_loop.trips) : BitVec 1 :=
  let c0_i32_15 : BitVec 32 := 0#32
  let c1_i32_17 : BitVec 32 := 1#32
  let arg14 : BitVec 32 := Scf.iv c0_i32_15 c1_i32_17 k0_t2
  let c4_i32_108 : BitVec 32 := 4#32
  let v100 : BitVec 32 := Scalar.muli arg14 c4_i32_108
  let c3_i32_109 : BitVec 32 := 3#32
  let v101 : BitVec 32 := Scalar.addi v100 c3_i32_109
  let c4_i32_110 : BitVec 32 := 4#32
  let v102 : BitVec 32 := Scalar.addi v101 c4_i32_110
  let c1_i32_111 : BitVec 32 := 1#32
  let v103 : BitVec 32 := Scalar.subi v102 c1_i32_111
  let c64_i32_112 : BitVec 32 := 64#32
  let v104 : BitVec 1 := Scalar.cmpi .slt v103 c64_i32_112
  let v105 : BitVec 32 := Scalar.extui v104
  let c0_i32_113 : BitVec 32 := 0#32
  let v106 : BitVec 1 := Scalar.cmpi .ne v105 c0_i32_113
  v106

def k0_off34 (i : grid0.Coords) : Fin 4 → Nat :=
  let arg1 : BitVec 32 := BitVec.ofNat 32 (i 1).val
  let c2_i32_114 : BitVec 32 := 2#32
  let c0_i32_117 : BitVec 32 := 0#32
  let c0_i32_118 : BitVec 32 := 0#32
  ![arg1.toNat, 2, 0, 0]
def k0_off35 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_15 : BitVec 32 := 0#32
  let c1_i32_17 : BitVec 32 := 1#32
  let arg14 : BitVec 32 := Scf.iv c0_i32_15 c1_i32_17 k0_t2
  let c4_i32_108 : BitVec 32 := 4#32
  let v100 : BitVec 32 := Scalar.muli arg14 c4_i32_108
  let c3_i32_109 : BitVec 32 := 3#32
  let v101 : BitVec 32 := Scalar.addi v100 c3_i32_109
  let c4_i32_110 : BitVec 32 := 4#32
  let v102 : BitVec 32 := Scalar.addi v101 c4_i32_110
  let c1_i32_111 : BitVec 32 := 1#32
  let v103 : BitVec 32 := Scalar.subi v102 c1_i32_111
  let c4_i32_119 : BitVec 32 := 4#32
  let v110 : BitVec 32 := Scalar.muli v103 c4_i32_119
  let v111 : BitVec 32 := Scalar.addi v2 v110
  let c0_i32_123 : BitVec 32 := 0#32
  ![v111.toNat, 0]
def k0_off36 (i : grid0.Coords) : Fin 4 → Nat :=
  let arg1 : BitVec 32 := BitVec.ofNat 32 (i 1).val
  let c3_i32 : BitVec 32 := 3#32
  let c0_i32_36 : BitVec 32 := 0#32
  let c0_i32_37 : BitVec 32 := 0#32
  ![arg1.toNat, 3, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.CopyRing.lean ====
/-
  A copying ring: one thread moves `n` blocks from a source array to a destination array through a cycle of four
  slots. Block `j` is read into slot `j mod 4` and written from there; each slot has a semaphore for its read and one
  for its write.

  Four counters say where the ring stands: `a` reads started, `b` reads finished, `w` writes started, `d` writes
  finished, with `d ≤ w ≤ b ≤ a ≤ d + 4`. `State` is what the thread holds at given counters, and each of the four
  theorems `startRead`, `waitRead`, `startWrite`, `waitWrite` moves one counter by one. The values ride along: block
  `j` of the source reads `X j`, and a block whose write has finished reads `X j` in the destination.
-/
module

public import Idealize.ShloMosaic.Lib.Transfers
public import Idealize.ShloMosaic.Lib.Memref
public import Idealize.ShloMosaic.Lib.Ring

@[expose] public section

noncomputable section

namespace Cert.Proof.CopyRing

open Idealize.ShloMosaic Idealize.ShloMosaic.Transfers
open Idealize.SL Idealize.SL.RA
open Idealize.SL.BI (sProp bigSep bigSep_insert bigSep_empty bigSep_congr bigSep_sep')
open scoped Idealize.SL.BI
open Idealize.SL.BI.BIBase Idealize.SL.BI.Laws Idealize.SL.Sem Idealize.SL.ProofMode

/-! ## A family summed over an interval of numbers -/

section Interval

variable {M : Type _} [URA M] {Φ : ℕ → sProp M}

/-- The first member of a nonempty interval, set apart. -/
theorem interval_first {a b : ℕ} (h : a < b) :
    bigSep (Finset.Ico a b) Φ = iprop(Φ a ∗ bigSep (Finset.Ico (a + 1) b) Φ) := by
  rw [Ring.Ico_eq_insert h, bigSep_insert (by simp)]; rfl

/-- An interval extended by one member at its end. -/
theorem interval_last {a b : ℕ} (h : a ≤ b) :
    bigSep (Finset.Ico a (b + 1)) Φ = iprop(Φ b ∗ bigSep (Finset.Ico a b) Φ) := by
  have e : Finset.Ico a (b + 1) = insert b (Finset.Ico a b) := by
    ext x; simp only [Finset.mem_Ico, Finset.mem_insert]; omega
  rw [e, bigSep_insert (by simp)]; rfl

/-- An empty interval holds nothing. -/
theorem interval_none (a : ℕ) : bigSep (Finset.Ico a a) Φ = (emp : sProp M) := by
  rw [Finset.Ico_self, bigSep_empty]; rfl

end Interval

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- The ring of thread `c`: the slot, source block, destination block and semaphores of each block number, and what
    each block reads. Slots and semaphores repeat every four blocks. -/
structure Ring (Val : EltTy → Type) (c : Thread nD τ) (s : Shape) (e : EltTy) where
  /-- How many blocks there are. -/
  n : ℕ
  slot : ℕ → Memref sig c.2.kind .shared s e
  src : ℕ → Memref sig c.2.kind .hbm s e
  out : ℕ → Memref sig c.2.kind .hbm s e
  /-- The semaphore of a block's read. -/
  rs : ℕ → DmaSem sig
  /-- The semaphore of a block's write. -/
  ws : ℕ → DmaSem sig
  /-- What a block reads. -/
  X : ℕ → s.Idx → Val e
  slot_cycle : ∀ j, slot (j + 4) = slot j
  rs_cycle : ∀ j, rs (j + 4) = rs j
  ws_cycle : ∀ j, ws (j + 4) = ws j

section State

variable (EC : UEmb Counters (MT nD τ sig Ix Val Name U Lvl)) {c : Thread nD τ} {s : Shape} {e : EltTy} (R : Ring (sig := sig) Val c s e) (ι : Ix)

/-- Block `j`'s slot at rest, at some contents. -/
def idle (j : ℕ) : sProp 𝕄 :=
  iprop(semVal (c, .dma (R.rs j)) 0 ∗ semVal (c, .dma (R.ws j)) 0 ∗ ∃ Y, owns c (R.slot j) fullShare Y)

/-- Block `j` on its way into its slot. -/
def reading (j : ℕ) : sProp 𝕄 :=
  iprop(Flight EC c (.dma (R.rs j)) ι (R.slot j).view.dmaCredit
      iprop(owns c (R.slot j) fullShare (R.X j) ∗ owns c (R.src j) fullShare (R.X j))
    ∗ semVal (c, .dma (R.ws j)) 0)

/-- Block `j` in its slot. -/
def landed (j : ℕ) : sProp 𝕄 :=
  iprop(semVal (c, .dma (R.rs j)) 0 ∗ semVal (c, .dma (R.ws j)) 0 ∗ owns c (R.slot j) fullShare (R.X j))

/-- Block `j` on its way from its slot to the destination. -/
def writing (j : ℕ) : sProp 𝕄 :=
  iprop(semVal (c, .dma (R.rs j)) 0 ∗ Flight EC c (.dma (R.ws j)) ι (R.out j).view.dmaCredit
      iprop(owns c (R.out j) fullShare (R.X j) ∗ owns c (R.slot j) fullShare (R.X j)))

/-- Block `j` of the source. -/
abbrev source (j : ℕ) : sProp 𝕄 := owns c (R.src j) fullShare (R.X j)

/-- Block `j` of the destination, written. -/
abbrev written (j : ℕ) : sProp 𝕄 := owns c (R.out j) fullShare (R.X j)

/-- Block `j` of the destination, not yet written. -/
abbrev unwritten (j : ℕ) : sProp 𝕄 := iprop(∃ Y, owns c (R.out j) fullShare Y)

/-- The evidence for the thread's waits: what it owes others, with the waits so far all at index `ι` or in `W`. -/
def duty (O : CellTallies nD τ sig Ix) (W : Waits sig Ix) (c : Thread nD τ) : sProp 𝕄 :=
  iprop(MayWaits c ι O ∗ ∃ W' : Waits sig Ix, ⌜∀ p ∈ W', p ∈ W ∨ p.2 = ι⌝ ∗ owes c O W')

/-- What the thread holds of the ring with `a` reads started, `b` finished, `w` writes started, `d` finished. -/
def State (O : CellTallies nD τ sig Ix) (W : Waits sig Ix) (a b w d : ℕ) : sProp 𝕄 :=
  iprop(bigSep (Finset.Ico d w) (writing EC R ι) ∗ bigSep (Finset.Ico w b) (landed R)
    ∗ bigSep (Finset.Ico b a) (reading EC R ι) ∗ bigSep (Finset.Ico a (d + 4)) (idle R)
    ∗ bigSep (Finset.Ico 0 b) (source R) ∗ bigSep (Finset.Ico a R.n) (source R)
    ∗ bigSep (Finset.Ico 0 d) (written R) ∗ bigSep (Finset.Ico w R.n) (unwritten R)
    ∗ duty ι O W c)

/-! ## Where the ring starts and where it ends -/

/-- The semaphores of the ring's four slots at zero. -/
def cells (R : Ring (sig := sig) Val c s e) : sProp 𝕄 :=
  bigSep (Finset.Ico 0 4) fun j => iprop(semVal (c, .dma (R.rs j)) 0 ∗ semVal (c, .dma (R.ws j)) 0)

/-- The ring's four slots, at some contents. -/
def slots (R : Ring (sig := sig) Val c s e) : sProp 𝕄 := bigSep (Finset.Ico 0 4) fun j => iprop(∃ Y, owns c (R.slot j) fullShare Y)

/-- Four slots at rest are their semaphores and their elements. -/
theorem idles_eq : (bigSep (Finset.Ico 0 4) (idle R) : sProp 𝕄) = iprop(cells R ∗ slots R) := by
  unfold cells slots
  rw [← bigSep_sep']
  refine bigSep_congr fun j _ => ?_
  have h : iprop(semVal (c, .dma (R.rs j)) 0 ∗ semVal (c, .dma (R.ws j)) 0 ∗ ∃ Y, owns c (R.slot j) fullShare Y)
      ⊢ (iprop((semVal (c, .dma (R.rs j)) 0 ∗ semVal (c, .dma (R.ws j)) 0) ∗ ∃ Y, owns c (R.slot j) fullShare Y) : sProp 𝕄) := sep_assoc.2
  have h' : iprop((semVal (c, .dma (R.rs j)) 0 ∗ semVal (c, .dma (R.ws j)) 0) ∗ ∃ Y, owns c (R.slot j) fullShare Y)
      ⊢ (iprop(semVal (c, .dma (R.rs j)) 0 ∗ semVal (c, .dma (R.ws j)) 0 ∗ ∃ Y, owns c (R.slot j) fullShare Y) : sProp 𝕄) := sep_assoc.1
  exact BI.equiv_iff.mp ⟨h, h'⟩

/-- Four slots at rest are the same four wherever the count of four starts. -/
theorem idles_cycle (q : ℕ) : (bigSep (Finset.Ico (4 * q) (4 * q + 4)) (idle R) : sProp 𝕄) = bigSep (Finset.Ico 0 4) (idle R) := by
  induction q with
  | zero => rfl
  | succ q ih =>
    have e : Finset.Ico (4 * (q + 1)) (4 * (q + 1) + 4) = (Finset.Ico (4 * q) (4 * q + 4)).image fun j => j + 4 := by
      ext x
      simp only [Finset.mem_Ico, Finset.mem_image]
      exact ⟨fun h => ⟨x - 4, by omega, by omega⟩, fun ⟨y, h, hy⟩ => by omega⟩
    rw [← ih, e, BI.bigSep_image_of_injOn fun i _ j _ h => Nat.add_right_cancel h]
    refine bigSep_congr fun j _ => ?_
    unfold idle
    rw [R.rs_cycle, R.ws_cycle, R.slot_cycle]

/-- The ring before its first read. -/
theorem start (O : CellTallies nD τ sig Ix) (W : Waits sig Ix) :
    iprop(cells R ∗ slots R ∗ bigSep (Finset.Ico 0 R.n) (source R) ∗ bigSep (Finset.Ico 0 R.n) (unwritten R) ∗ duty ι O W c)
      ⊢ State EC R ι O W 0 0 0 0 := by
  unfold State
  simp only [interval_none]
  rw [Nat.zero_add, idles_eq]
  iintro ⟨HC, HB, HS, HU, HO⟩
  isplitr; · iempintro
  isplitr; · iempintro
  isplitr; · iempintro
  isplitl [HC HB]
  · isplitl [HC] <;> iassumption
  isplitr; · iempintro
  isplitl [HS]; · iexact HS
  isplitr; · iempintro
  isplitl [HU]; · iexact HU
  iexact HO

/-- The ring after its last write: every block of the destination reads what the same block of the source reads. -/
theorem finish (O : CellTallies nD τ sig Ix) (W : Waits sig Ix) (q : ℕ) (hq : R.n = 4 * q) :
    State EC R ι O W R.n R.n R.n R.n
      ⊢ iprop(cells R ∗ slots R ∗ bigSep (Finset.Ico 0 R.n) (source R) ∗ bigSep (Finset.Ico 0 R.n) (written R) ∗ duty ι O W c) := by
  have hi : (bigSep (Finset.Ico R.n (R.n + 4)) (idle R) : sProp 𝕄) = iprop(cells R ∗ slots R) := by rw [hq, idles_cycle, idles_eq]
  unfold State
  rw [hi]
  iintro ⟨-, -, -, ⟨HC, HB⟩, HS, -, HD, -, HO⟩
  isplitl [HC]; · iexact HC
  isplitl [HB]; · iexact HB
  isplitl [HS]; · iexact HS
  isplitl [HD]; · iexact HD
  iexact HO

end State

/-! ## One copy, one wait -/

section Steps

variable (EC : UEmb Counters (MT nD τ sig Ix Val Name U Lvl)) [Infinite Name] [EC.LandsIn (upEmb : UEmb _ (MT nD τ sig Ix Val Name U Lvl))]
variable {Λ : Labels} {defs : Defs nD τ sig Val Λ} {𝒱 : Variants} {c : Thread nD τ} {bd : Option 𝒱.V}
variable {s : Shape} {e : EltTy}

/-- Starting a copy of a memref that reads `X` over another of the same shape: what is in flight delivers both,
    reading `X`. -/
theorem startCopy {sp sp' : Space} (src : Memref sig c.2.kind sp s e) (dst : Memref sig c.2.kind sp' s e) (sm : DmaSem sig)
    (ι : Ix) (X : s.Idx → Val e) (hpos : 0 < s.numel)
    {hsrc : src.view.WordExact} {hdst : dst.view.WordExact} {hsem : DmaTarget.Typed (nD := nD) sp (.dma sm) (.here dst)}
    {Q : PUnit → sProp 𝕄} :
    iprop(owns c src fullShare X ∗ (∃ Y, owns c dst fullShare Y) ∗ semVal (c, .dma sm) 0)
      ⊢ iprop((Flight EC c (.dma sm) ι dst.view.dmaCredit iprop(owns c dst fullShare X ∗ owns c src fullShare X) -∗ Q ⟨⟩)
        -∗ wp frame (wpE defs 𝒱 c bd) Set.univ
            (Prog.lift (TpuEff.enqueueDma src (.here dst) (.dma sm) hsrc hdst hsem)) Q) := by
  iintro ⟨HS, ⟨%Y, HD⟩, Hv⟩ HQ
  ihave HS' := (show owns c src fullShare X ⊢ iprop(∃ f, ⌜src.view.read Val f = X⌝ ∗ (src.view.loc c ↦[src.view.set]{fullShare} f)) from .rfl) $$ HS
  ihave HD' := (show owns c dst fullShare Y ⊢ iprop(∃ f, ⌜dst.view.read Val f = Y⌝ ∗ (dst.view.loc c ↦[dst.view.set]{fullShare} f)) from .rfl) $$ HD
  icases HS' with ⟨%f, %hf, Hs⟩
  icases HD' with ⟨%g, -, Hd⟩
  have hs : (owns c src fullShare (src.view.read Val f) : sProp 𝕄) = owns c src fullShare X := by rw [hf]
  have hd : (owns c dst fullShare (dst.view.read Val (dst.view.write Val g (src.view.read Val f) Finset.univ)) : sProp 𝕄)
      = owns c dst fullShare X := by rw [View.read_write_univ, hf]
  iapply (wp_dmaLocal EC 𝒱 c bd (via := .same) ι dst.view.dmaCredit rfl (View.dmaCredit_pos _ hpos) (Finset.Subset.refl _))
    $$ [Hs Hd Hv]
  · isplitl [Hs]; · iexact Hs
    isplitl [Hd]; · iexact Hd
    iexact Hv
  iintro HF
  iapply (le_wp_ret frame (wpE defs 𝒱 c bd))
  iapply HQ
  iapply (Flight_mono EC c (sep_mono ((owns_intro c dst fullShare _).trans (.of_eq hd)) ((owns_intro c src fullShare f).trans (.of_eq hs)))) $$ HF

/-- Waiting for a transfer in flight. -/
theorem waitCopy {sp sp' : Space} {κ' : Kind} {s' : Shape} {e' : EltTy} {srcw : Memref sig c.2.kind sp' s' e'} {dstw : Memref sig κ' sp s e}
    {hsrc : srcw.view.WordExact} {hdst : dstw.view.WordExact} {sm : DmaSem sig} (ι : Ix) {N : ℕ} (hN : dstw.view.dmaCredit = N)
    {O : CellTallies nD τ sig Ix} {W : Waits sig Ix} {D : sProp 𝕄} {Q : PUnit → sProp 𝕄} :
    iprop(Flight EC c (.dma sm) ι N D ∗ duty ι O W c)
      ⊢ iprop((iprop(D ∗ semVal (c, .dma sm) 0 ∗ duty ι O W c) -∗ Q ⟨⟩)
        -∗ wp frame (wpE defs 𝒱 c bd) Set.univ (Prog.lift (TpuEff.waitDma2 sm srcw dstw hsrc hdst)) Q) := by
  unfold duty
  iintro ⟨HF, #Hm, %W', %hW, HO⟩ HQ
  iapply (wp_waitLocalO EC 𝒱 c bd ι hN) $$ [HF HO]
  · isplitl [HF]; · iexact HF
    isplitl [HO]; · iexact HO
    iapply (MayWaits.elim (SemLoc.dma sm)); iexact Hm
  iintro ⟨HD, Hv, HO⟩
  iapply (le_wp_ret frame (wpE defs 𝒱 c bd))
  iapply HQ
  isplitl [HD]; · iexact HD
  isplitl [Hv]; · iexact Hv
  isplitr; · iexact Hm
  iexists _
  isplitr
  rotate_left
  · iexact HO
  · ipureintro
    intro p hp
    rcases Finset.mem_insert.mp hp with rfl | hp
    · exact .inr rfl
    · exact hW p hp

variable {R : Ring (sig := sig) Val c s e} {ι : Ix} {O : CellTallies nD τ sig Ix} {W : Waits sig Ix} {a b w d : ℕ}
variable {Q : PUnit → sProp (MT nD τ sig Ix Val Name U Lvl)}

/-- Starting the read of block `a`. -/
theorem startRead (src : Memref sig c.2.kind .hbm s e) (dst : Memref sig c.2.kind .shared s e) (sm : DmaSem sig)
    (hs : src = R.src a) (hd : dst = R.slot a) (hm : sm = R.rs a) (hpos : 0 < s.numel) (han : a < R.n) (had : a < d + 4) (hba : b ≤ a)
    {hsrc : src.view.WordExact} {hdst : dst.view.WordExact} {hsem : DmaTarget.Typed (nD := nD) .hbm (.dma sm) (.here dst)} :
    State EC R ι O W a b w d
      ⊢ iprop((State EC R ι O W (a + 1) b w d -∗ Q ⟨⟩)
        -∗ wp frame (wpE defs 𝒱 c bd) Set.univ
            (Prog.lift (TpuEff.enqueueDma src (.here dst) (.dma sm) hsrc hdst hsem)) Q) := by
  subst hs hd hm
  unfold State
  rw [interval_first had, interval_first han, interval_last hba]
  iintro ⟨HW, HL, HR, ⟨HI, HIs⟩, HS, ⟨HX, HXs⟩, HD, HU, HO⟩ HQ
  ihave HI' := (show idle R a ⊢ iprop(semVal (c, .dma (R.rs a)) 0 ∗ semVal (c, .dma (R.ws a)) 0 ∗ ∃ Y, owns c (R.slot a) fullShare Y) from .rfl) $$ HI
  icases HI' with ⟨Hr, Hw, Hs⟩
  iapply (startCopy EC (R.src a) (R.slot a) (R.rs a) ι (R.X a) hpos) $$ [HX Hs Hr]
  · isplitl [HX]; · iexact HX
    isplitl [Hs]; · iexact Hs
    iexact Hr
  iintro HF
  iapply HQ
  isplitl [HW]; · iexact HW
  isplitl [HL]; · iexact HL
  isplitl [HF Hw HR]
  · isplitl [HF Hw]
    · unfold reading; isplitl [HF]; · iexact HF
      iexact Hw
    · iexact HR
  isplitl [HIs]; · iexact HIs
  isplitl [HS]; · iexact HS
  isplitl [HXs]; · iexact HXs
  isplitl [HD]; · iexact HD
  isplitl [HU]; · iexact HU
  iexact HO

/-- Waiting for the read of block `b`. -/
theorem waitRead {sp' : Space} {κ' : Kind} {s' : Shape} {e' : EltTy} {srcw : Memref sig c.2.kind sp' s' e'} {sp : Space} (dstw : Memref sig κ' sp s e)
    (sm : DmaSem sig) (hm : sm = R.rs b) (hN : dstw.view.dmaCredit = (R.slot b).view.dmaCredit) (hba : b < a) (hwb : w ≤ b)
    {hsrc : srcw.view.WordExact} {hdst : dstw.view.WordExact} :
    State EC R ι O W a b w d
      ⊢ iprop((State EC R ι O W a (b + 1) w d -∗ Q ⟨⟩)
        -∗ wp frame (wpE defs 𝒱 c bd) Set.univ (Prog.lift (TpuEff.waitDma2 sm srcw dstw hsrc hdst)) Q) := by
  subst hm
  unfold State
  rw [interval_first hba, interval_last hwb, interval_last (Nat.zero_le b)]
  iintro ⟨HW, HL, ⟨HR, HRs⟩, HIs, HS, HXs, HD, HU, HO⟩ HQ
  ihave HR' := (show reading EC R ι b ⊢ iprop(Flight EC c (.dma (R.rs b)) ι (R.slot b).view.dmaCredit
      iprop(owns c (R.slot b) fullShare (R.X b) ∗ owns c (R.src b) fullShare (R.X b))
    ∗ semVal (c, .dma (R.ws b)) 0) from .rfl) $$ HR
  icases HR' with ⟨HF, Hw⟩
  iapply (waitCopy EC ι hN) $$ [HF HO]
  · isplitl [HF]; · iexact HF
    iexact HO
  iintro ⟨⟨Hs, HX⟩, Hr, HO⟩
  iapply HQ
  isplitl [HW]; · iexact HW
  isplitl [Hr Hw Hs HL]
  · isplitl [Hr Hw Hs]
    · unfold landed; isplitl [Hr]; · iexact Hr
      isplitl [Hw]; · iexact Hw
      iexact Hs
    · iexact HL
  isplitl [HRs]; · iexact HRs
  isplitl [HIs]; · iexact HIs
  isplitl [HX HS]
  · isplitl [HX]; · iexact HX
    iexact HS
  isplitl [HXs]; · iexact HXs
  isplitl [HD]; · iexact HD
  isplitl [HU]; · iexact HU
  iexact HO

/-- Starting the write of block `w`. -/
theorem startWrite (src : Memref sig c.2.kind .shared s e) (dst : Memref sig c.2.kind .hbm s e) (sm : DmaSem sig)
    (hs : src = R.slot w) (hd : dst = R.out w) (hm : sm = R.ws w) (hpos : 0 < s.numel) (hwn : w < R.n) (hwb : w < b) (hdw : d ≤ w)
    {hsrc : src.view.WordExact} {hdst : dst.view.WordExact} {hsem : DmaTarget.Typed (nD := nD) .shared (.dma sm) (.here dst)} :
    State EC R ι O W a b w d
      ⊢ iprop((State EC R ι O W a b (w + 1) d -∗ Q ⟨⟩)
        -∗ wp frame (wpE defs 𝒱 c bd) Set.univ
            (Prog.lift (TpuEff.enqueueDma src (.here dst) (.dma sm) hsrc hdst hsem)) Q) := by
  subst hs hd hm
  unfold State
  rw [interval_first hwb, interval_first hwn, interval_last hdw]
  iintro ⟨HW, ⟨HL, HLs⟩, HR, HIs, HS, HXs, HD, ⟨HU, HUs⟩, HO⟩ HQ
  ihave HL' := (show landed R w ⊢ iprop(semVal (c, .dma (R.rs w)) 0 ∗ semVal (c, .dma (R.ws w)) 0 ∗ owns c (R.slot w) fullShare (R.X w)) from .rfl) $$ HL
  icases HL' with ⟨Hr, Hw, Hs⟩
  iapply (startCopy EC (R.slot w) (R.out w) (R.ws w) ι (R.X w) hpos) $$ [HU Hs Hw]
  · isplitl [Hs]; · iexact Hs
    isplitl [HU]; · iexact HU
    iexact Hw
  iintro HF
  iapply HQ
  isplitl [HF Hr HW]
  · isplitl [HF Hr]
    · unfold writing; isplitl [Hr]; · iexact Hr
      iexact HF
    · iexact HW
  isplitl [HLs]; · iexact HLs
  isplitl [HR]; · iexact HR
  isplitl [HIs]; · iexact HIs
  isplitl [HS]; · iexact HS
  isplitl [HXs]; · iexact HXs
  isplitl [HD]; · iexact HD
  isplitl [HUs]; · iexact HUs
  iexact HO

/-- Waiting for the write of block `d`: its slot is at rest, and it is the slot of block `d + 4`. -/
theorem waitWrite {sp' : Space} {κ' : Kind} {s' : Shape} {e' : EltTy} {srcw : Memref sig c.2.kind sp' s' e'} {sp : Space} (dstw : Memref sig κ' sp s e)
    (sm : DmaSem sig) (hm : sm = R.ws d) (hN : dstw.view.dmaCredit = (R.out d).view.dmaCredit) (hdw : d < w) (had : a ≤ d + 4)
    {hsrc : srcw.view.WordExact} {hdst : dstw.view.WordExact} :
    State EC R ι O W a b w d
      ⊢ iprop((State EC R ι O W a b w (d + 1) -∗ Q ⟨⟩)
        -∗ wp frame (wpE defs 𝒱 c bd) Set.univ (Prog.lift (TpuEff.waitDma2 sm srcw dstw hsrc hdst)) Q) := by
  subst hm
  unfold State
  rw [interval_first hdw, interval_last (Nat.zero_le d), show d + 1 + 4 = (d + 4) + 1 from by omega, interval_last had]
  iintro ⟨⟨HW, HWs⟩, HL, HR, HIs, HS, HXs, HD, HU, HO⟩ HQ
  ihave HW' := (show writing EC R ι d ⊢ iprop(semVal (c, .dma (R.rs d)) 0 ∗ Flight EC c (.dma (R.ws d)) ι (R.out d).view.dmaCredit
      iprop(owns c (R.out d) fullShare (R.X d) ∗ owns c (R.slot d) fullShare (R.X d))) from .rfl) $$ HW
  icases HW' with ⟨Hr, HF⟩
  iapply (waitCopy EC ι hN) $$ [HF HO]
  · isplitl [HF]; · iexact HF
    iexact HO
  iintro ⟨⟨HX, Hs⟩, Hw, HO⟩
  iapply HQ
  isplitl [HWs]; · iexact HWs
  isplitl [HL]; · iexact HL
  isplitl [HR]; · iexact HR
  isplitl [Hr Hw Hs HIs]
  · isplitl [Hr Hw Hs]
    · unfold idle
      rw [R.rs_cycle, R.ws_cycle, R.slot_cycle]
      isplitl [Hr]; · iexact Hr
      isplitl [Hw]; · iexact Hw
      iexists _; iexact Hs
    · iexact HIs
  isplitl [HS]; · iexact HS
  isplitl [HXs]; · iexact HXs
  isplitl [HX HD]
  · isplitl [HX]; · iexact HX
    iexact HD
  isplitl [HU]; · iexact HU
  iexact HO

/-! ## Programs made of steps -/

variable {β : Type} {G : β → sProp (MT nD τ sig Ix Val Name U Lvl)}

/-- A step, then the rest of the program. -/
theorem andThen {op : Prog (TpuEff nD τ sig Val Λ c.2) PUnit} {rest : PUnit → Prog (TpuEff nD τ sig Val Λ c.2) β} {A B : sProp 𝕄}
    (h : ∀ Q : PUnit → sProp 𝕄, A ⊢ iprop((B -∗ Q ⟨⟩) -∗ wp frame (wpE defs 𝒱 c bd) Set.univ op Q))
    (k : B ⊢ wp frame (wpE defs 𝒱 c bd) Set.univ (rest ⟨⟩) G) :
    A ⊢ wp frame (wpE defs 𝒱 c bd) Set.univ (op >>= rest) G := by
  rw [wp_bind]
  iintro HA
  iapply (h _) $$ HA
  iintro HB
  iapply k; iexact HB

/-- A part of a program by what it ends in, then the rest. -/
theorem part {γ : Type} {pt : Prog (TpuEff nD τ sig Val Λ c.2) γ} {rest : γ → Prog (TpuEff nD τ sig Val Λ c.2) β} {A B : sProp 𝕄}
    (h : A ⊢ wp frame (wpE defs 𝒱 c bd) Set.univ pt fun _ => B) (k : ∀ x, B ⊢ wp frame (wpE defs 𝒱 c bd) Set.univ (rest x) G) :
    A ⊢ wp frame (wpE defs 𝒱 c bd) Set.univ (pt >>= rest) G := by
  rw [wp_bind]
  iintro HA
  iapply (wp_wand_r frame (wpE defs 𝒱 c bd) Set.univ)
  isplitl [HA]
  · iapply h; iexact HA
  · iintro %x HB
    iapply (k x); iexact HB

/-- The end of a program. -/
theorem ending {x : β} {A : sProp 𝕄} (k : A ⊢ G x) : A ⊢ wp frame (wpE defs 𝒱 c bd) Set.univ (pure x) G := by
  iintro HA
  iapply (le_wp_ret frame (wpE defs 𝒱 c bd))
  iapply k; iexact HA

variable {p : Prop} [Decidable p] {rest : Prog (TpuEff nD τ sig Val Λ c.2) β}

/-- Waiting for the write of block `d` if `p`, then the rest: `d'` writes are finished before the rest. -/
theorem waitWriteIf (d' : ℕ) {sp' : Space} {κ' : Kind} {s' : Shape} {e' : EltTy} {srcw : p → Memref sig c.2.kind sp' s' e'} {sp : Space}
    (dstw : p → Memref sig κ' sp s e) (sm : DmaSem sig) (hy : p → d' = d + 1) (hn : ¬ p → d' = d)
    (hm : p → sm = R.ws d) (hN : ∀ h, (dstw h).view.dmaCredit = (R.out d).view.dmaCredit) (hdw : p → d < w) (had : p → a ≤ d + 4)
    {hsrc : ∀ h, (srcw h).view.WordExact} {hdst : ∀ h, (dstw h).view.WordExact}
    (k : State EC R ι O W a b w d' ⊢ wp frame (wpE defs 𝒱 c bd) Set.univ rest G) :
    State EC R ι O W a b w d
      ⊢ wp frame (wpE defs 𝒱 c bd) Set.univ
          (dite p (fun h => Prog.lift (TpuEff.waitDma2 sm (srcw h) (dstw h) (hsrc h) (hdst h)) >>= fun _ => rest) (fun _ => rest)) G := by
  by_cases h : p
  · rw [dif_pos h]
    exact andThen (fun _ => waitWrite EC (dstw h) sm (hm h) (hN h) (hdw h) (had h)) (hy h ▸ k)
  · rw [dif_neg h]
    exact hn h ▸ k

/-! ## One block

Three reads ahead, one write behind: the operations that a program has for block `i`. -/

/-- The ring before block `i` goes out: the reads of three more blocks started, the writes of all but one of the blocks
    before finished. -/
abbrev Before (R : Ring (sig := sig) Val c s e) (ι : Ix) (O : CellTallies nD τ sig Ix) (W : Waits sig Ix) (i : ℕ) : sProp 𝕄 :=
  State EC R ι O W (min (i + 3) R.n) i i (min (i - 1) (R.n - 4))

/-- The ring when block `i` is on its way out and the slot of the block before is not yet used again. -/
abbrev Passed (R : Ring (sig := sig) Val c s e) (ι : Ix) (O : CellTallies nD τ sig Ix) (W : Waits sig Ix) (i : ℕ) : sProp 𝕄 :=
  State EC R ι O W (min (i + 3) R.n) (i + 1) (i + 1) (min (i - 1) (R.n - 4))

/-- Block `i` has landed in its slot and goes on its way out. -/
theorem pass (i : ℕ) {sp' : Space} {κ' : Kind} {s' : Shape} {e' : EltTy} {srcw : Memref sig c.2.kind sp' s' e'} {sp : Space}
    (dstw : Memref sig κ' sp s e) (smr : DmaSem sig) (src : Memref sig c.2.kind .shared s e) (dst : Memref sig c.2.kind .hbm s e) (smw : DmaSem sig)
    (hr : smr = R.rs i) (hN : dstw.view.dmaCredit = (R.slot i).view.dmaCredit) (hs : src = R.slot i) (hd : dst = R.out i) (hw : smw = R.ws i)
    (hpos : 0 < s.numel) (hi : i < R.n)
    {hsrcw : srcw.view.WordExact} {hdstw : dstw.view.WordExact}
    {hsrc : src.view.WordExact} {hdst : dst.view.WordExact} {hsem : DmaTarget.Typed (nD := nD) .shared (.dma smw) (.here dst)}
    {rest : PUnit → Prog (TpuEff nD τ sig Val Λ c.2) β}
    (k : Passed EC R ι O W i ⊢ wp frame (wpE defs 𝒱 c bd) Set.univ (rest ⟨⟩) G) :
    Before EC R ι O W i
      ⊢ wp frame (wpE defs 𝒱 c bd) Set.univ
          (Prog.lift (TpuEff.waitDma2 smr srcw dstw hsrcw hdstw) >>= fun _ =>
            Prog.lift (TpuEff.enqueueDma src (.here dst) (.dma smw) hsrc hdst hsem) >>= rest) G := by
  refine andThen (fun _ => waitRead EC dstw smr hr hN (by omega) (by omega)) ?_
  exact andThen (fun _ => startWrite EC src dst smw hs hd hw hpos hi (by omega) (by omega)) k

variable {p : Prop} [Decidable p]

/-- After block `i`, where the program does not ask whether there is a block three blocks on: the write of the block
    before, if there is one, finishes, and the read of that block starts in its slot. -/
theorem next (i : ℕ) {sp' : Space} {κ' : Kind} {s' : Shape} {e' : EltTy} {srcw : p → Memref sig c.2.kind sp' s' e'} {sp : Space}
    (dstw : p → Memref sig κ' sp s e) (smw : DmaSem sig) (src : Memref sig c.2.kind .hbm s e) (dst : Memref sig c.2.kind .shared s e) (smr : DmaSem sig)
    (hp : p ↔ 1 ≤ i) (hi : i + 3 < R.n) (hw : p → smw = R.ws (i - 1)) (hN : ∀ h, (dstw h).view.dmaCredit = (R.out (i - 1)).view.dmaCredit)
    (hs : src = R.src (i + 3)) (hd : dst = R.slot (i + 3)) (hr : smr = R.rs (i + 3)) (hpos : 0 < s.numel)
    {hsrcw : ∀ h, (srcw h).view.WordExact} {hdstw : ∀ h, (dstw h).view.WordExact}
    {hsrc : src.view.WordExact} {hdst : dst.view.WordExact} {hsem : DmaTarget.Typed (nD := nD) .hbm (.dma smr) (.here dst)}
    {rest : PUnit → Prog (TpuEff nD τ sig Val Λ c.2) β}
    (k : Before EC R ι O W (i + 1) ⊢ wp frame (wpE defs 𝒱 c bd) Set.univ (rest ⟨⟩) G) :
    Passed EC R ι O W i
      ⊢ wp frame (wpE defs 𝒱 c bd) Set.univ
          (dite p (fun h => Prog.lift (TpuEff.waitDma2 smw (srcw h) (dstw h) (hsrcw h) (hdstw h)) >>= fun _ =>
              Prog.lift (TpuEff.enqueueDma src (.here dst) (.dma smr) hsrc hdst hsem) >>= rest)
            (fun _ => Prog.lift (TpuEff.enqueueDma src (.here dst) (.dma smr) hsrc hdst hsem) >>= rest)) G := by
  have ha : min (i + 3) R.n = i + 3 := by omega
  have ha' : min (i + 1 + 3) R.n = i + 3 + 1 := by omega
  have hd' : min (i - 1) (R.n - 4) = i - 1 := by omega
  unfold Passed
  unfold Before at k
  rw [ha, hd']
  rw [ha'] at k
  refine waitWriteIf EC (min (i + 1 - 1) (R.n - 4)) dstw smw (by rw [hp]; omega) (by rw [hp]; omega) hw hN (by omega) (by rw [hp]; omega) ?_
  exact andThen (fun _ => startRead EC src dst smr hs hd hr hpos hi (by omega) (by omega)) k

/-- After block `i`, where the program asks: the same if there is a block three blocks on. -/
theorem nextIf (i : ℕ) {sp' : Space} {κ' : Kind} {s' : Shape} {e' : EltTy} {srcw : p → Memref sig c.2.kind sp' s' e'} {sp : Space}
    (dstw : p → Memref sig κ' sp s e) (smw : DmaSem sig) (src : p → Memref sig c.2.kind .hbm s e) (dst : p → Memref sig c.2.kind .shared s e) (smr : DmaSem sig)
    (hp : p ↔ i + 3 < R.n) (h1 : 1 ≤ i) (hi : i < R.n) (hw : p → smw = R.ws (i - 1)) (hN : ∀ h, (dstw h).view.dmaCredit = (R.out (i - 1)).view.dmaCredit)
    (hs : ∀ h, src h = R.src (i + 3)) (hd : ∀ h, dst h = R.slot (i + 3)) (hr : p → smr = R.rs (i + 3)) (hpos : 0 < s.numel)
    {hsrcw : ∀ h, (srcw h).view.WordExact} {hdstw : ∀ h, (dstw h).view.WordExact}
    {hsrc : ∀ h, (src h).view.WordExact} {hdst : ∀ h, (dst h).view.WordExact}
    {hsem : ∀ h, DmaTarget.Typed (nD := nD) .hbm (.dma smr) (.here (dst h))}
    {rest : Prog (TpuEff nD τ sig Val Λ c.2) β}
    (k : Before EC R ι O W (i + 1) ⊢ wp frame (wpE defs 𝒱 c bd) Set.univ rest G) :
    Passed EC R ι O W i
      ⊢ wp frame (wpE defs 𝒱 c bd) Set.univ
          (dite p (fun h => Prog.lift (TpuEff.waitDma2 smw (srcw h) (dstw h) (hsrcw h) (hdstw h)) >>= fun _ =>
              Prog.lift (TpuEff.enqueueDma (src h) (.here (dst h)) (.dma smr) (hsrc h) (hdst h) (hsem h)) >>= fun _ => rest)
            (fun _ => rest)) G := by
  by_cases h : p
  · have h' := hp.mp h
    have ha : min (i + 3) R.n = i + 3 := by omega
    have ha' : min (i + 1 + 3) R.n = i + 3 + 1 := by omega
    have hd' : min (i - 1) (R.n - 4) = i - 1 := by omega
    have hd'' : min (i + 1 - 1) (R.n - 4) = i - 1 + 1 := by omega
    unfold Passed
    unfold Before at k
    rw [ha, hd', dif_pos h]
    rw [ha', hd''] at k
    refine andThen (fun _ => waitWrite EC (dstw h) smw (hw h) (hN h) (by omega) (by omega)) ?_
    exact andThen (fun _ => startRead EC (src h) (dst h) smr (hs h) (hd h) (hr h) hpos h' (by omega) (by omega)) k
  · have h' : ¬ i + 3 < R.n := fun a => h (hp.mpr a)
    have ha : min (i + 1 + 3) R.n = min (i + 3) R.n := by omega
    have hd' : min (i + 1 - 1) (R.n - 4) = min (i - 1) (R.n - 4) := by omega
    unfold Passed
    unfold Before at k
    rw [dif_neg h]
    rw [ha, hd'] at k
    exact k

end Steps

end Cert.Proof.CopyRing

end
-- ==== Proof.Setup.lean ====
/-
  The kernel's launch as the library's launch theorem sees it, and how the arrays are dealt out.

  `vlm` is the first argument (8192 rows), `vis` the second (4096 rows), `out` the result (8192 rows); a row is 4096
  numbers. Tile `s` of SparseCore `c` works on the 256 rows from row `512 s + 256 c` on, in 64 blocks of four rows. What
  `out` must hold at the end is `final`: the rows of `vis`, then the last 4096 rows of `vlm`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.CopyRing

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's standing facts: its semaphores are apart and outside the tasks' own, its buffers too. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

abbrev vlmLoc (d : Dev nD) : Loc nD τ sig := (SparseCore.T d).loc main_arg0
abbrev visLoc (d : Dev nD) : Loc nD τ sig := (SparseCore.T d).loc main_arg1
abbrev idxLoc (d : Dev nD) : Loc nD τ sig := (SparseCore.T d).loc main_arg2
abbrev outLoc (d : Dev nD) : Loc nD τ sig := (SparseCore.T d).loc main_v0
/-- SparseCore `c`'s shared scratch. -/
abbrev spRef (c : Fin τ.nSC) : DevRef τ sig := ⟨.shared, ⟨0, by decide⟩, c⟩
abbrev spLoc (d : Dev nD) (c : Fin τ.nSC) : Loc nD τ sig := (d, spRef c)

/-- The arrays and the shared scratch as a task names them. -/
abbrev vlmM : Memref sig .scVector .hbm S8192x4096 .f32 := Memref.whole main_arg0_scv
abbrev visM : Memref sig .scVector .hbm S4096x4096 .f32 := Memref.whole main_arg1_scv
abbrev outM : Memref sig .scVector .hbm S8192x4096 .f32 := Memref.whole main_v0_scv
abbrev spM : Memref sig .scVector .shared S16x4x4x4096 .f32 := Memref.whole cc0_scratch0

/-- A row number below 4096 names a row of `vis`. -/
theorem visRow (i : S8192x4096.Idx) (h : (i 0).val < 4096) : ∀ a : Fin 2, (i a).val < S4096x4096.size a
  | 0 => h
  | 1 => (i 1).isLt

/-- What the result must hold: the rows of `vis`, then the last 4096 rows of `vlm`. -/
def final (d : Dev nD) : Buf (Elt F) (outLoc d) := fun i : S8192x4096.Idx =>
  if h : (i 0).val < 4096 then m (visLoc d) (fun a : Fin 2 => (⟨(i a).val, visRow i h a⟩ : Fin (S4096x4096.size a))) else m (vlmLoc d) i

/-! ## Splitting by a key -/

/-- An array held whole is its parts by a key, one for each value of the key. -/
theorem pts_split {ℓ : Loc nD τ sig} (A : Finset (Idx ℓ)) {α : Type} [Fintype α] [DecidableEq α] (key : Idx ℓ → α) (f : Buf (Elt F) ℓ) :
    (ℓ ↦[A]{fullShare} f : sProp 𝕄) = bigSep Finset.univ fun t => ℓ ↦[A.filter fun i => key i = t]{fullShare} f := by
  rw [← pointsTo_biUnion Finset.univ (ℓ := ℓ) (fun t => A.filter fun i => key i = t)
    (fun t _ t' _ h => Finset.disjoint_filter.mpr fun i _ e e' => h (e.symm.trans e')),
    Finset.biUnion_filter_eq_of_maps_to fun _ _ => Finset.mem_univ _]

/-- Parts by a key, each at contents of its own, are the whole at some contents. -/
theorem pts_join {ℓ : Loc nD τ sig} (A : Finset (Idx ℓ)) {α : Type} [Fintype α] [DecidableEq α] [Inhabited α] (key : Idx ℓ → α) [Nonempty (Buf (Elt F) ℓ)] :
    (bigSep Finset.univ fun t => iprop(∃ f, ℓ ↦[A.filter fun i => key i = t]{fullShare} f)) ⊢ (iprop(∃ f, ℓ ↦[A]{fullShare} f) : sProp 𝕄) := by
  refine (bigSep_exists_pi Finset.univ (fun t (f : Buf (Elt F) ℓ) => iprop(ℓ ↦[A.filter fun i => key i = t]{fullShare} f))).trans ?_
  iintro ⟨%fs, H⟩
  ihave H' := (pointsTo_biUnion_join Finset.univ (fun t => A.filter fun i => key i = t) fs (fs default)
    (fun t _ t' _ h => Finset.disjoint_filter.mpr fun i _ e e' => h (e.symm.trans e'))) $$ H
  icases H' with ⟨%g, -, Hg⟩
  rw [Finset.biUnion_filter_eq_of_maps_to fun _ _ => Finset.mem_univ _]
  iexists g; iexact Hg

/-- A row's SparseCore, its tile, and its block within the tile's rows. -/
def coreOf (r : ℕ) : Fin 2 := ⟨r / 256 % 2, Nat.mod_lt _ (by decide)⟩
def tileOf (r : ℕ) : Fin 16 := ⟨r / 512 % 16, Nat.mod_lt _ (by decide)⟩
def blockOf (r : ℕ) : Fin 64 := ⟨r / 4 % 64, Nat.mod_lt _ (by decide)⟩

/-- An array of `n` rows. -/
abbrev Rows (n : ℕ) : Shape := ⟨2, ![n, 4096]⟩

/-- SparseCore `c`'s rows of an array of `n` rows, tile `s`'s rows among them, and block `j` of those. -/
def coreRows (n : ℕ) (c : Fin 2) : Finset (Rows n).Idx := Finset.univ.filter fun i => coreOf (i 0).val = c
def tileRows (n : ℕ) (c : Fin 2) (s : Fin 16) : Finset (Rows n).Idx := (coreRows n c).filter fun i => tileOf (i 0).val = s
def blockRows (n : ℕ) (c : Fin 2) (s : Fin 16) (j : Fin 64) : Finset (Rows n).Idx := (tileRows n c s).filter fun i => blockOf (i 0).val = j

/-- Block `j` of the tile's rows as an offset. -/
def off (c : Fin 2) (s : Fin 16) (j : ℕ) : Fin 2 → ℕ := ![512 * s.val + 256 * c.val + 4 * (j % 64), 0]

theorem off_inb {n : ℕ} {c : Fin 2} {s : Fin 16} (h : 512 * s.val + 256 * c.val + 256 ≤ n) (j : ℕ) :
    ∀ a : Fin 2, off c s j a + S4x4096.size a ≤ (Rows n).size a
  | 0 => by show 512 * s.val + 256 * c.val + 4 * (j % 64) + 4 ≤ n; omega
  | 1 => by show 0 + 4096 ≤ 4096; omega

/-- The rectangle of block `j`. -/
abbrev rect {n : ℕ} {c : Fin 2} {s : Fin 16} (h : 512 * s.val + 256 * c.val + 256 ≤ n) (j : ℕ) : Rect (Rows n) :=
  Rect.unit (s := Rows n) (off c s j) S4x4096.size (off_inb h j)

/-- Every tile has its rows in an array of 8192. -/
theorem fits (c : Fin 2) (s : Fin 16) : 512 * s.val + 256 * c.val + 256 ≤ 8192 := by omega

theorem blockRows_eq {n : ℕ} (hn : n ≤ 8192) {c : Fin 2} {s : Fin 16} (h : 512 * s.val + 256 * c.val + 256 ≤ n) (j : Fin 64) :
    blockRows n c s j = (rect h j.val).set := by
  ext i
  have hi : (i 0).val < n := (i 0).isLt
  have h1 : (i 1).val < 4096 := (i 1).isLt
  simp only [blockRows, tileRows, coreRows, Finset.mem_filter, Finset.mem_univ, true_and, Rect.mem_set_unit, coreOf, tileOf, blockOf, Fin.ext_iff]
  constructor
  · rintro ⟨⟨h1, h2⟩, h3⟩ a
    match a with
    | 0 => show 512 * s.val + 256 * c.val + 4 * (j.val % 64) ≤ (i 0).val ∧ (i 0).val < 512 * s.val + 256 * c.val + 4 * (j.val % 64) + 4; omega
    | 1 => show 0 ≤ (i 1).val ∧ (i 1).val < 0 + 4096; omega
  · intro H
    have H0 : 512 * s.val + 256 * c.val + 4 * (j.val % 64) ≤ (i 0).val ∧ (i 0).val < 512 * s.val + 256 * c.val + 4 * (j.val % 64) + 4 := H 0
    omega

/-- The tile and the slot of an element of the shared scratch; tile `s`'s part of it, and slot `b` of that. -/
def spTile (i : S16x4x4x4096.Idx) : Fin 16 := i 0
def spSlot (i : S16x4x4x4096.Idx) : Fin 4 := i 1
def tileSlots (s : Fin 16) : Finset S16x4x4x4096.Idx := Finset.univ.filter fun i => spTile i = s
def slotSet (s : Fin 16) (b : Fin 4) : Finset S16x4x4x4096.Idx := (tileSlots s).filter fun i => spSlot i = b

def slotOff (s : Fin 16) (j : ℕ) : Fin 4 → ℕ := ![s.val, j % 4, 0, 0]

theorem slotOff_inb (s : Fin 16) (j : ℕ) : ∀ a : Fin 4, slotOff s j a + S1x1x4x4096.size a ≤ S16x4x4x4096.size a
  | 0 => by show s.val + 1 ≤ 16; omega
  | 1 => by show j % 4 + 1 ≤ 4; omega
  | 2 => by show 0 + 4 ≤ 4; omega
  | 3 => by show 0 + 4096 ≤ 4096; omega

abbrev slotRect (s : Fin 16) (j : ℕ) : Rect S16x4x4x4096 := Rect.unit (s := S16x4x4x4096) (slotOff s j) S1x1x4x4096.size (slotOff_inb s j)

theorem mem_slotSet (s : Fin 16) (b : Fin 4) (i : S16x4x4x4096.Idx) : i ∈ slotSet s b ↔ (i 0).val = s.val ∧ (i 1).val = b.val := by
  simp only [slotSet, tileSlots, Finset.mem_filter, Finset.mem_univ, true_and]
  exact and_congr Fin.ext_iff Fin.ext_iff

theorem slotSet_eq (s : Fin 16) (b : Fin 4) : slotSet s b = (slotRect s b.val).set := by
  ext i
  have h2 : (i 2).val < 4 := (i 2).isLt
  have h3 : (i 3).val < 4096 := (i 3).isLt
  have h0 : (i 0).val < 16 := (i 0).isLt
  have h1 : (i 1).val < 4 := (i 1).isLt
  rw [mem_slotSet, Rect.mem_set_unit]
  constructor
  · rintro ⟨e0, e1⟩ a
    match a with
    | 0 => show s.val ≤ (i 0).val ∧ (i 0).val < s.val + 1; omega
    | 1 => show b.val % 4 ≤ (i 1).val ∧ (i 1).val < b.val % 4 + 1; omega
    | 2 => show 0 ≤ (i 2).val ∧ (i 2).val < 0 + 4; omega
    | 3 => show 0 ≤ (i 3).val ∧ (i 3).val < 0 + 4096; omega
  · intro H
    have H0 : s.val ≤ (i 0).val ∧ (i 0).val < s.val + 1 := H 0
    have H1 : b.val % 4 ≤ (i 1).val ∧ (i 1).val < b.val % 4 + 1 := H 1
    omega

/-! ## A tile's blocks and slots as the task names them -/

section Blocks

variable {c : Fin 2} {s : Fin 16}

abbrev vlmB (c : Fin 2) (s : Fin 16) (j : ℕ) : Memref sig .scVector .hbm S4x4096 .f32 := vlmM.slice (rect (fits c s) j) (fun _ => rfl)
abbrev visB (h : 512 * s.val + 256 * c.val + 256 ≤ 4096) (j : ℕ) : Memref sig .scVector .hbm S4x4096 .f32 := visM.slice (rect h j) (fun _ => rfl)
abbrev outB (c : Fin 2) (s : Fin 16) (j : ℕ) : Memref sig .scVector .hbm S4x4096 .f32 := outM.slice (rect (fits c s) j) (fun _ => rfl)
abbrev slotB (s : Fin 16) (j : ℕ) : Memref sig .scVector .shared S4x4096 .f32 :=
  (spM.slice (slotRect s j) (fun _ => rfl)).squeeze S4x4096 squeezes_S1x1x4x4096_S4x4096

end Blocks

/-! ## What passes between the TensorCore, the sequencers and the tasks -/

/-- What tile `s` of SparseCore `c` is given of the arrays and gives back: its rows of `vlm`, `vis` and the result (the
    result at contents `g`), and its part of the shared scratch. -/
abbrev tileHas (d : Dev nD) (κ : Fin τ.nSC) (c : Fin 2) (s : Fin 16) (g : Buf (Elt F) (outLoc d)) : sProp 𝕄 :=
  iprop((vlmLoc d ↦[tileRows 8192 c s]{fullShare} m (vlmLoc d)) ∗ (visLoc d ↦[tileRows 4096 c s]{fullShare} m (visLoc d))
    ∗ (outLoc d ↦[tileRows 8192 c s]{fullShare} g) ∗ ∃ f : Buf (Elt F) (spLoc d κ), spLoc d κ ↦[tileSlots s]{fullShare} f)

/-- What SparseCore `c` is given of the arrays and gives back. -/
abbrev coreHas (d : Dev nD) (c : Fin 2) (g : Buf (Elt F) (outLoc d)) : sProp 𝕄 :=
  iprop((vlmLoc d ↦[coreRows 8192 c]{fullShare} m (vlmLoc d)) ∗ (visLoc d ↦[coreRows 4096 c]{fullShare} m (visLoc d))
    ∗ (outLoc d ↦[coreRows 8192 c]{fullShare} g))

theorem nCore_zero : (K (F := F)).nCore 0 = 2 := rfl
theorem nSub_zero : (K (F := F)).nSub 0 = 16 := rfl

/-- The one call's payloads: the SparseCore's rows to its sequencer and back, a tile's rows to its task and back, the
    result's rows going out as they were and coming back at `final`. -/
def P : (K (F := F)).Pay (nD := nD) (Val := Elt F) (Name := ℕ) (U := UU) where
  st := fun q d c => match q with | 0 => coreHas m d (Fin.cast nCore_zero c) (m (outLoc d))
  dn := fun q d c => match q with | 0 => coreHas m d (Fin.cast nCore_zero c) (final m d)
  go := fun q d c i => match q with
    | 0 => tileHas m d ((K (F := F)).core 0 c) (Fin.cast nCore_zero c) (Fin.cast nSub_zero i) (m (outLoc d))
  td := fun q d c i => match q with
    | 0 => tileHas m d ((K (F := F)).core 0 c) (Fin.cast nCore_zero c) (Fin.cast nSub_zero i) (final m d)
  x := fun _ _ => iprop(emp)

instance P_storable : (P (F := F) m).IsStorable where
  st q d c := match q with
    | 0 => (inferInstance : BI.Storable (upEmb : UEmb _ 𝕄) (coreHas m d (Fin.cast nCore_zero c) (m (outLoc d))))
  dn q d c := match q with
    | 0 => (inferInstance : BI.Storable (upEmb : UEmb _ 𝕄) (coreHas m d (Fin.cast nCore_zero c) (final m d)))
  go q d c i := match q with
    | 0 => (inferInstance : BI.Storable (upEmb : UEmb _ 𝕄)
      (tileHas m d ((K (F := F)).core 0 c) (Fin.cast nCore_zero c) (Fin.cast nSub_zero i) (m (outLoc d))))
  td q d c i := match q with
    | 0 => (inferInstance : BI.Storable (upEmb : UEmb _ 𝕄)
      (tileHas m d ((K (F := F)).core 0 c) (Fin.cast nCore_zero c) (Fin.cast nSub_zero i) (final m d)))

end Cert.Proof.Copy

end
-- ==== Proof.Deal.lean ====
/-
  A tile's share of the arrays and semaphores, as the copying ring of its task: the ring's slots, blocks and
  semaphores, the state it starts from, and what the arrays hold when all 64 blocks have been copied.
-/
module

public import proofs.«01_k».proof.Proof.Setup

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open CopyRing (Ring State)

variable {F : FTy → Type}

local notation "𝕄" => MT nD τ sig (HIx 1) (Elt F) ℕ UU ℕ

/-- The counters of the task's transfers. -/
abbrev EC : UEmb Counters (MT nD τ sig (HIx 1) (Elt F) ℕ UU ℕ) := countersEmb

variable (m : (ℓ : Loc nD τ sig) → Buf (Elt F) ℓ) (d : Dev nD) (L : grid0.Coords)

/-! ## The ring -/

/-- The task's thread, its SparseCore and its tile. -/
abbrev th : Thread nD τ := V d ((L 0).castLE hcore0) ((L 1).castLE hsub0)
abbrev cL : Fin 2 := Fin.cast rfl (L 0)
abbrev sL : Fin 16 := Fin.cast rfl (L 1)

/-- The semaphores of block `j`'s read and of its write. -/
def readSem (j : ℕ) : DmaSem sig := ⟨j % 4, by show j % 4 < 8; omega⟩
def writeSem (j : ℕ) : DmaSem sig := ⟨4 + j % 4, by show 4 + j % 4 < 8; omega⟩

/-- What block `j` must read in the result. -/
def blockVal (j : ℕ) : S4x4096.Idx → Elt F .f32 := fun x => final m d ((rect (fits (cL L) (sL L)) j).emb x)

theorem slotB_cycle (s : Fin 16) (j : ℕ) : slotB s (j + 4) = slotB s j := by
  have h : slotOff s (j + 4) = slotOff s j := by unfold slotOff; rw [Nat.add_mod_right]
  exact congrArg (fun M => Memref.squeeze M S4x4096 squeezes_S1x1x4x4096_S4x4096) (Memref.slice_unit_congr spM h _ _ _ _)

/-- The task's ring, from source blocks `src`. -/
def ring (src : ℕ → Memref sig .scVector .hbm S4x4096 .f32) : Ring (sig := sig) (Elt F) (th d L) S4x4096 .f32 where
  n := 64
  slot := slotB (sL L)
  src := src
  out := outB (cL L) (sL L)
  rs := readSem
  ws := writeSem
  X := blockVal m d L
  slot_cycle := slotB_cycle (sL L)
  rs_cycle := fun j => Fin.ext (show (j + 4) % 4 = j % 4 by omega)
  ws_cycle := fun j => Fin.ext (show 4 + (j + 4) % 4 = 4 + j % 4 by omega)

/-! ## The arrays by blocks -/

/-- A family over `Fin n` summed is the family by number summed over the numbers below `n`. -/
theorem sum_fin (n : ℕ) (Φ : ℕ → sProp 𝕄) : (bigSep Finset.univ fun j : Fin n => Φ j.val) = bigSep (Finset.Ico 0 n) Φ := by
  rw [Ring.bigSep_fin_eq_range n (fun j => Φ j.val) Φ fun _ _ => rfl, Finset.range_eq_Ico]

/-- The tile's rows of `vlm` are its blocks of `vlm`. -/
theorem vlm_blocks (g : Buf (Elt F) (vlmLoc d)) :
    (vlmLoc d ↦[tileRows 8192 (cL L) (sL L)]{fullShare} g : sProp 𝕄)
      = bigSep (Finset.Ico 0 64) fun j => owns (th d L) (vlmB (cL L) (sL L) j) fullShare fun x => g ((rect (fits (cL L) (sL L)) j).emb x) := by
  rw [pts_split (ℓ := vlmLoc d) _ (fun i : (Rows 8192).Idx => blockOf (i 0).val), ← sum_fin]
  refine bigSep_congr fun j _ => ?_
  refine Eq.trans ?_ (owns_slice_read (th d L) vlmM fullShare (rect (fits (cL L) (sL L)) j.val) (fun _ => rfl) g).symm
  rw [View.set_slice_whole]
  exact congrArg (fun A => (vlmLoc d ↦[A]{fullShare} g : sProp 𝕄)) (blockRows_eq (by omega) (fits (cL L) (sL L)) j)

/-- The tile's rows of `vis`, where it has any, are its blocks of `vis`. -/
theorem vis_blocks (h : 512 * (sL L).val + 256 * (cL L).val + 256 ≤ 4096) (g : Buf (Elt F) (visLoc d)) :
    (visLoc d ↦[tileRows 4096 (cL L) (sL L)]{fullShare} g : sProp 𝕄)
      = bigSep (Finset.Ico 0 64) fun j => owns (th d L) (visB h j) fullShare fun x => g ((rect h j).emb x) := by
  rw [pts_split (ℓ := visLoc d) _ (fun i : (Rows 4096).Idx => blockOf (i 0).val), ← sum_fin]
  refine bigSep_congr fun j _ => ?_
  refine Eq.trans ?_ (owns_slice_read (th d L) visM fullShare (rect h j.val) (fun _ => rfl) g).symm
  rw [View.set_slice_whole]
  exact congrArg (fun A => (visLoc d ↦[A]{fullShare} g : sProp 𝕄)) (blockRows_eq (by omega) h j)

/-- The tile's rows of the result are its blocks of the result. -/
theorem out_blocks (g : Buf (Elt F) (outLoc d)) :
    (outLoc d ↦[tileRows 8192 (cL L) (sL L)]{fullShare} g : sProp 𝕄)
      = bigSep (Finset.Ico 0 64) fun j => owns (th d L) (outB (cL L) (sL L) j) fullShare fun x => g ((rect (fits (cL L) (sL L)) j).emb x) := by
  rw [pts_split (ℓ := outLoc d) _ (fun i : (Rows 8192).Idx => blockOf (i 0).val), ← sum_fin]
  refine bigSep_congr fun j _ => ?_
  refine Eq.trans ?_ (owns_slice_read (th d L) outM fullShare (rect (fits (cL L) (sL L)) j.val) (fun _ => rfl) g).symm
  rw [View.set_slice_whole]
  exact congrArg (fun A => (outLoc d ↦[A]{fullShare} g : sProp 𝕄)) (blockRows_eq (by omega) (fits (cL L) (sL L)) j)

/-- Where an element of a block lies: `off` plus its place in the block. -/
theorem rect_emb {n : ℕ} {c : Fin 2} {s : Fin 16} (h : 512 * s.val + 256 * c.val + 256 ≤ n) (j : ℕ) (x : S4x4096.Idx) (a : Fin 2) :
    ((rect h j).emb x a).val = off c s j a + (x a).val := by
  show off c s j a + 1 * (x a).val = _
  rw [Nat.one_mul]

/-- Below row 4096 a block of the result reads what the same block of `vis` reads. -/
theorem blockVal_vis (h : 512 * (sL L).val + 256 * (cL L).val + 256 ≤ 4096) (j : ℕ) :
    (fun x => m (visLoc d) ((rect h j).emb x)) = blockVal m d L j := by
  funext x
  have hx : (x 0).val < 4 := (x 0).isLt
  have hr : ((rect (fits (cL L) (sL L)) j).emb x 0).val < 4096 := by
    rw [rect_emb]; show 512 * (sL L).val + 256 * (cL L).val + 4 * (j % 64) + (x 0).val < 4096; omega
  unfold blockVal final
  rw [dif_pos hr]
  refine congrArg (m (visLoc d)) (funext fun a => Fin.ext ?_)
  exact (rect_emb h j x a).trans (rect_emb (fits (cL L) (sL L)) j x a).symm

/-- From row 4096 on a block of the result reads what the same block of `vlm` reads. -/
theorem blockVal_vlm (h : 4096 ≤ 512 * (sL L).val + 256 * (cL L).val) (j : ℕ) :
    (fun x => m (vlmLoc d) ((rect (fits (cL L) (sL L)) j).emb x)) = blockVal m d L j := by
  funext x
  have hr : ¬ ((rect (fits (cL L) (sL L)) j).emb x 0).val < 4096 := by
    rw [rect_emb]; show ¬ 512 * (sL L).val + 256 * (cL L).val + 4 * (j % 64) + (x 0).val < 4096; omega
  unfold blockVal final
  rw [dif_neg hr]

/-! ## The shared scratch by slots -/

/-- A slot's elements, whatever they hold. -/
theorem slot_pts (j : ℕ) (f : Buf (Elt F) (spLoc d ((L 0).castLE hcore0))) :
    (spLoc d ((L 0).castLE hcore0) ↦[(slotRect (sL L) j).set]{fullShare} f : sProp 𝕄) ⊢ iprop(∃ Y, owns (th d L) (slotB (sL L) j) fullShare Y) := by
  have e : (slotB (sL L) j).view.set = (slotRect (sL L) j).set :=
    (View.set_reshape _ _).trans (View.set_slice_whole _ _)
  iintro H
  iexists _
  iapply (owns_intro (th d L) (slotB (sL L) j) fullShare f)
  rw [e]; iexact H

theorem slot_back (j : ℕ) :
    iprop(∃ Y, owns (th d L) (slotB (sL L) j) fullShare Y)
      ⊢ (iprop(∃ f : Buf (Elt F) (spLoc d ((L 0).castLE hcore0)), spLoc d ((L 0).castLE hcore0) ↦[(slotRect (sL L) j).set]{fullShare} f) : sProp 𝕄) := by
  have e : (slotB (sL L) j).view.set = (slotRect (sL L) j).set :=
    (View.set_reshape _ _).trans (View.set_slice_whole _ _)
  unfold owns
  rw [e]
  iintro ⟨%Y, %f, -, H⟩
  iexists f; iexact H

/-- The tile's part of the shared scratch is its four slots. -/
theorem slots_in :
    iprop(∃ f : Buf (Elt F) (spLoc d ((L 0).castLE hcore0)), spLoc d ((L 0).castLE hcore0) ↦[tileSlots (sL L)]{fullShare} f)
      ⊢ (bigSep (Finset.Ico 0 4) fun j => iprop(∃ Y, owns (th d L) (slotB (sL L) j) fullShare Y) : sProp 𝕄) := by
  iintro ⟨%f, H⟩
  have e : (spLoc d ((L 0).castLE hcore0) ↦[tileSlots (sL L)]{fullShare} f : sProp 𝕄)
      = bigSep Finset.univ fun b : Fin 4 => spLoc d ((L 0).castLE hcore0) ↦[slotSet (sL L) b]{fullShare} f :=
    pts_split (ℓ := spLoc d ((L 0).castLE hcore0)) (tileSlots (sL L)) spSlot f
  have h : (bigSep Finset.univ fun b : Fin 4 => spLoc d ((L 0).castLE hcore0) ↦[slotSet (sL L) b]{fullShare} f)
      ⊢ (bigSep Finset.univ fun b : Fin 4 => iprop(∃ Y, owns (th d L) (slotB (sL L) b.val) fullShare Y) : sProp 𝕄) :=
    SparseCore.ent (bigSep_mono fun b _ => by rw [slotSet_eq]; exact slot_pts d L b.val f)
  rw [← sum_fin 4]
  iapply h
  iapply (Entails.of_eq e)
  iexact H

theorem slots_out [∀ e, Nonempty (Elt F e)] :
    (bigSep (Finset.Ico 0 4) fun j => iprop(∃ Y, owns (th d L) (slotB (sL L) j) fullShare Y) : sProp 𝕄)
      ⊢ iprop(∃ f : Buf (Elt F) (spLoc d ((L 0).castLE hcore0)), spLoc d ((L 0).castLE hcore0) ↦[tileSlots (sL L)]{fullShare} f) := by
  rw [← sum_fin 4]
  refine BI.Entails.trans ?_ (pts_join (ℓ := spLoc d ((L 0).castLE hcore0)) (tileSlots (sL L)) spSlot)
  exact SparseCore.ent (bigSep_mono fun b _ => by
    have := slot_back (F := F) d L b.val
    rw [← slotSet_eq] at this; exact this)

/-! ## The task's semaphores -/

abbrev readCell (j : ℕ) : GSem nD τ sig := (th d L, .dma (readSem j))
abbrev writeCell (j : ℕ) : GSem nD τ sig := (th d L, .dma (writeSem j))

theorem dma_own (sm : DmaSem sig) : ((th d L, .dma sm) : GSem nD τ sig) ∈ ownCells (th d L) :=
  mem_ownCells.mpr ⟨rfl, (show ∀ s : DmaSem sig, (SemLoc.dma s : SemLoc sig).isScoped .scVector = true by decide) _⟩

/-- The cells of the four reads' semaphores and of the four writes'. -/
abbrev readCells : Finset (GSem nD τ sig) := (Finset.Ico 0 4).image (readCell d L)
abbrev writeCells : Finset (GSem nD τ sig) := (Finset.Ico 0 4).image (writeCell d L)

theorem cell_val {a b : DmaSem sig} (h : ((th d L, .dma a) : GSem nD τ sig) = (th d L, .dma b)) : a.val = b.val := by
  have := congrArg (fun g : GSem nD τ sig => g.2) h
  simp only [SemLoc.dma.injEq] at this
  rw [this]

theorem regroup (A B C : sProp 𝕄) : iprop(A ∗ B ∗ C) = iprop((A ∗ B) ∗ C) := by
  have h : iprop(A ∗ B ∗ C) ⊢ iprop((A ∗ B) ∗ C) := Laws.sep_assoc.2
  have h' : iprop((A ∗ B) ∗ C) ⊢ iprop(A ∗ B ∗ C) := Laws.sep_assoc.1
  exact BI.equiv_iff.mp ⟨h, h'⟩

/-- The task's own semaphores at zero are the ring's eight and the rest. -/
theorem sems_eq :
    (ownSems0 (th d L) : sProp 𝕄)
      = iprop((bigSep (Finset.Ico 0 4) fun j => iprop(semVal (readCell d L j) 0 ∗ semVal (writeCell d L j) 0))
          ∗ bigSep ((ownCells (th d L) \ readCells d L) \ writeCells d L) fun g => semVal g 0) := by
  unfold SparseCore.Cfg.ownSems0
  rw [SparseCore.bigSep_sdiff_split' (t := readCells d L) (Finset.image_subset_iff.mpr fun j _ => dma_own d L _),
    SparseCore.bigSep_sdiff_split' (s := ownCells (th d L) \ readCells d L) (t := writeCells d L) (Finset.image_subset_iff.mpr fun j _ =>
      Finset.mem_sdiff.mpr ⟨dma_own d L _, fun h => by
        obtain ⟨i, hi, e⟩ := Finset.mem_image.mp h
        have : i % 4 = 4 + j % 4 := cell_val d L e
        omega⟩),
    SparseCore.bigSep_image_of_injOn (f := readCell d L) (fun i hi j hj e => by
      have hi := Finset.mem_Ico.mp (Finset.mem_coe.mp hi)
      have hj := Finset.mem_Ico.mp (Finset.mem_coe.mp hj)
      have : i % 4 = j % 4 := cell_val d L e
      omega),
    SparseCore.bigSep_image_of_injOn (f := writeCell d L) (fun i hi j hj e => by
      have hi := Finset.mem_Ico.mp (Finset.mem_coe.mp hi)
      have hj := Finset.mem_Ico.mp (Finset.mem_coe.mp hj)
      have : 4 + i % 4 = 4 + j % 4 := cell_val d L e
      omega), bigSep_sep']
  exact regroup _ _ _

end Cert.Proof.Copy

end
-- ==== Proof.Tile.lean ====
/-
  One task's run, at a symbolic SparseCore and tile. A tile below the middle copies its rows of `vis`, the others their
  rows of `vlm`; both run the same ring of four slots. Before trip `k` of its loop a task has moved `4 k` blocks as far
  as their writes' start, and of those writes all but the last have finished.
-/
module

public import proofs.«01_k».proof.Proof.Deal

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open CopyRing (Ring State andThen part ending startRead waitWrite Before Passed pass next nextIf)

variable {F : FTy → Type}

local notation "𝕄" => MT nD τ sig (HIx 1) (Elt F) ℕ UU ℕ

/-! ## The program's blocks and slots are the ring's -/

section Names

variable {c : Fin 2} {s : Fin 16}

theorem slot_at {n j : ℕ} {o : Fin 4 → ℕ} (e : o = ![s.val, n, 0, 0]) (h : n = j % 4)
    (p : ∀ a, o a + S1x1x4x4096.size a ≤ S16x4x4x4096.size a) (hs : _) :
    (spM.slice (Rect.unit (s := S16x4x4x4096) o S1x1x4x4096.size p) hs).squeeze S4x4096 squeezes_S1x1x4x4096_S4x4096 = slotB s j := by
  subst h
  exact congrArg (fun M => Memref.squeeze M S4x4096 squeezes_S1x1x4x4096_S4x4096) (Memref.slice_unit_congr spM e _ _ _ _)

theorem off_at {x j : ℕ} (h : x = 512 * s.val + 256 * c.val + 4 * (j % 64)) : (![x, 0] : Fin 2 → ℕ) = off c s j := by subst h; rfl

theorem out_at {x j : ℕ} {o : Fin 2 → ℕ} (e : o = ![x, 0]) (h : x = 512 * s.val + 256 * c.val + 4 * (j % 64))
    (p : ∀ a, o a + S4x4096.size a ≤ S8192x4096.size a) (hs : _) :
    outM.slice (Rect.unit (s := S8192x4096) o S4x4096.size p) hs = outB c s j :=
  Memref.slice_unit_congr outM (e.trans (off_at h)) _ _ _ _

theorem vlm_at {x j : ℕ} {o : Fin 2 → ℕ} (e : o = ![x, 0]) (h : x = 512 * s.val + 256 * c.val + 4 * (j % 64))
    (p : ∀ a, o a + S4x4096.size a ≤ S8192x4096.size a) (hs : _) :
    vlmM.slice (Rect.unit (s := S8192x4096) o S4x4096.size p) hs = vlmB c s j :=
  Memref.slice_unit_congr vlmM (e.trans (off_at h)) _ _ _ _

theorem vis_at (hr : 512 * s.val + 256 * c.val + 256 ≤ 4096) {x j : ℕ} {o : Fin 2 → ℕ} (e : o = ![x, 0])
    (h : x = 512 * s.val + 256 * c.val + 4 * (j % 64)) (p : ∀ a, o a + S4x4096.size a ≤ S4096x4096.size a) (hs : _) :
    visM.slice (Rect.unit (s := S4096x4096) o S4x4096.size p) hs = visB hr j :=
  Memref.slice_unit_congr visM (e.trans (off_at h)) _ _ _ _

/-- Waiting for a slot to fill, or for a block of the result to be written, waits for as many bytes whichever slot or
    block is named. -/
theorem slot_credit (o : Fin 4 → ℕ) (j : ℕ) (p : ∀ a, o a + S1x1x4x4096.size a ≤ S16x4x4x4096.size a) (hs : _) :
    ((spM.slice (Rect.unit (s := S16x4x4x4096) o S1x1x4x4096.size p) hs).squeeze S4x4096 squeezes_S1x1x4x4096_S4x4096).view.dmaCredit
      = (slotB s j).view.dmaCredit := rfl

theorem out_credit (o : Fin 2 → ℕ) (j : ℕ) (p : ∀ a, o a + S4x4096.size a ≤ S8192x4096.size a) (hs : _) :
    (outM.slice (Rect.unit (s := S8192x4096) o S4x4096.size p) hs).view.dmaCredit = (outB c s j).view.dmaCredit := rfl

end Names

/-! ## The program's semaphores are the ring's -/

theorem read_at {sm : DmaSem sig} {n j : ℕ} (e : sm.val = n) (h : n = j % 4) : sm = readSem j := Fin.ext (e.trans h)
theorem write_at {sm : DmaSem sig} {n j : ℕ} (e : sm.val = 4 + n) (h : n = j % 4) : sm = writeSem j := Fin.ext (e.trans (congrArg (4 + ·) h))

theorem read0 : (cc0_scratch1.sem : DmaSem sig).val = 0 := rfl
theorem read1 : (cc0_scratch2.sem : DmaSem sig).val = 1 := rfl
theorem read2 : (cc0_scratch3.sem : DmaSem sig).val = 2 := rfl
theorem read3 : (cc0_scratch4.sem : DmaSem sig).val = 3 := rfl
theorem write0 : (cc0_scratch5.sem : DmaSem sig).val = 4 + 0 := rfl
theorem write1 : (cc0_scratch6.sem : DmaSem sig).val = 4 + 1 := rfl
theorem write2 : (cc0_scratch7.sem : DmaSem sig).val = 4 + 2 := rfl
theorem write3 : (cc0_scratch8.sem : DmaSem sig).val = 4 + 3 := rfl

/-! ## The loops' trip counts and the conditions -/

theorem trips1 : k0_t1_loop.trips = 16 := by decide +kernel
theorem trips2 : k0_t2_loop.trips = 16 := by decide +kernel

theorem cond2_iff : ∀ k : Fin k0_t1_loop.trips, k0_cond2 k = 1#1 ↔ 1 ≤ k.val := by decide +kernel
theorem cond3_iff : ∀ k : Fin k0_t1_loop.trips, k0_cond3 k = 1#1 ↔ k.val < 15 := by decide +kernel
theorem cond4_iff : ∀ k : Fin k0_t1_loop.trips, k0_cond4 k = 1#1 ↔ k.val < 15 := by decide +kernel
theorem cond5_iff : ∀ k : Fin k0_t1_loop.trips, k0_cond5 k = 1#1 ↔ k.val < 15 := by decide +kernel
theorem cond7_iff : ∀ k : Fin k0_t2_loop.trips, k0_cond7 k = 1#1 ↔ 1 ≤ k.val := by decide +kernel
theorem cond8_iff : ∀ k : Fin k0_t2_loop.trips, k0_cond8 k = 1#1 ↔ k.val < 15 := by decide +kernel
theorem cond9_iff : ∀ k : Fin k0_t2_loop.trips, k0_cond9 k = 1#1 ↔ k.val < 15 := by decide +kernel
theorem cond10_iff : ∀ k : Fin k0_t2_loop.trips, k0_cond10 k = 1#1 ↔ k.val < 15 := by decide +kernel

/-- The first branch is taken by the tiles whose rows lie below row 4096, the second by the others. -/
theorem cond1_iff : ∀ L : grid0.Coords, k0_cond1 L = 1#1 ↔ 512 * (L 1).val + 256 * (L 0).val < 4096 := by decide +kernel
theorem cond6_iff : ∀ L : grid0.Coords, k0_cond6 L = 1#1 ↔ 4096 ≤ 512 * (L 1).val + 256 * (L 0).val := by decide +kernel

-- from here on the conditions are what these lemmas say of them
attribute [local irreducible] k0_cond1 k0_cond2 k0_cond3 k0_cond4 k0_cond5 k0_cond6 k0_cond7 k0_cond8 k0_cond9 k0_cond10

variable [FloatOps F]
variable (m : (ℓ : Loc nD τ sig) → Buf (Elt F) ℓ) (d : Dev nD) (L : grid0.Coords)

theorem numel_pos : 0 < S4x4096.numel := by decide +kernel

section Vis

variable (hr : 512 * (sL L).val + 256 * (cL L).val + 256 ≤ 4096) (O : CellTallies nD τ sig (HIx 1)) (W : Waits sig (HIx 1))

/-- The first part of a trip: block `4 k` goes on its way out, and the read three blocks on starts. -/
theorem vis_part1 (v : BitVec 32) (h1 : k0_cond1 L = 1#1) (k : Fin k0_t1_loop.trips) (x y : BitVec 32) :
    Before EC (ring m d L (visB hr)) none O W (4 * k.val)
      ⊢ wp frame (wpE (defs₀ (F := F)) 𝒱₀ (th d L) none) Set.univ
          (k0_part1 L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h1 x y k)
          fun _ => Before EC (ring m d L (visB hr)) none O W (4 * k.val + 1) := by
  have hk : k.val < 16 := trips1 ▸ k.isLt
  have es : (sL L).val = (L 1).val := rfl
  have ec : (cL L).val = (L 0).val := rfl
  rw [k0_part1_eq_skeleton]
  unfold k0_part1_skel
  dsimp only
  -- block `4 k`: it has landed, its write starts; the write before it finishes, the read three blocks on starts
  refine pass EC (4 * k.val) _ _ _ _ _ (by exact read_at read0 (by omega)) (by exact slot_credit _ _ _ _) (by exact slot_at (k0_off5_eq L) (by omega) _ _)
    (by exact out_at (k0_off6_eq L k 0) (by show _ + 4 * 0 = _; omega) _ _) (by exact write_at write0 (by omega)) numel_pos (by show _ < 64; omega) ?_
  refine next EC (4 * k.val) _ _ _ _ _ (by rw [cond2_iff]; omega) (by show _ < 64; omega) (by rw [cond2_iff]; exact fun _ => write_at write3 (by omega))
    (fun _ => by exact out_credit _ _ _ _) (by exact vis_at hr (k0_off9_eq L k) (by omega) _ _) (by exact slot_at (k0_off8_eq L) (by omega) _ _)
    (by exact read_at read3 (by omega)) numel_pos ?_
  exact ending .rfl

/-- The second part: blocks `4 k + 1` and `4 k + 2` go on their way out, and one read more starts unless this is the
    last trip. -/
theorem vis_part2 (v : BitVec 32) (h1 : k0_cond1 L = 1#1) (k : Fin k0_t1_loop.trips) (x y : BitVec 32) :
    Before EC (ring m d L (visB hr)) none O W (4 * k.val + 1)
      ⊢ wp frame (wpE (defs₀ (F := F)) 𝒱₀ (th d L) none) Set.univ
          (k0_part2 L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h1 k x y)
          fun _ => Passed EC (ring m d L (visB hr)) none O W (4 * k.val + 2) := by
  have hk : k.val < 16 := trips1 ▸ k.isLt
  have es : (sL L).val = (L 1).val := rfl
  have ec : (cL L).val = (L 0).val := rfl
  rw [k0_part2_eq_skeleton]
  unfold k0_part2_skel
  dsimp only
  -- block `4 k + 1`
  refine pass EC (4 * k.val + 1) _ _ _ _ _ (by exact read_at read1 (by omega)) (by exact slot_credit _ _ _ _) (by exact slot_at (k0_off10_eq L) (by omega) _ _)
    (by exact out_at (k0_off6_eq L k 1) (by show _ + 4 * 1 = _; omega) _ _) (by exact write_at write1 (by omega)) numel_pos (by show _ < 64; omega) ?_
  refine nextIf EC (4 * k.val + 1) _ _ _ _ _ (by rw [cond3_iff]; show _ ↔ _ < 64; omega) (by omega) (by show _ < 64; omega)
    (by exact fun _ => write_at write0 (by omega)) (fun _ => by exact out_credit _ _ _ _)
    (by intro h; rw [cond3_iff] at h; exact vis_at hr (k0_off12_eq L k) (by omega) _ _) (by exact fun _ => slot_at (k0_off11_eq L) (by omega) _ _)
    (by exact fun _ => read_at read0 (by omega)) numel_pos ?_
  -- block `4 k + 2`
  refine pass EC (4 * k.val + 2) _ _ _ _ _ (by exact read_at read2 (by omega)) (by exact slot_credit _ _ _ _) (by exact slot_at (k0_off13_eq L) (by omega) _ _)
    (by exact out_at (k0_off6_eq L k 2) (by show _ + 4 * 2 = _; omega) _ _) (by exact write_at write2 (by omega)) numel_pos (by show _ < 64; omega) ?_
  exact ending .rfl

/-- One trip of a tile that copies `vis`. -/
theorem vis_trip (v : BitVec 32) (h1 : k0_cond1 L = 1#1) (k : Fin k0_t1_loop.trips) :
    Before EC (ring m d L (visB hr)) none O W (4 * k.val)
      ⊢ wp frame (wpE (defs₀ (F := F)) 𝒱₀ (th d L) none) Set.univ
          (k0_t1_body L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h1 k ⟨⟩)
          fun _ => Before EC (ring m d L (visB hr)) none O W (4 * (k.val + 1)) := by
  have hk : k.val < 16 := trips1 ▸ k.isLt
  have es : (sL L).val = (L 1).val := rfl
  have ec : (cL L).val = (L 0).val := rfl
  unfold k0_t1_body
  dsimp only
  refine part (vis_part1 m d L hr O W v h1 k _ _) fun x => ?_
  refine part (vis_part2 m d L hr O W v h1 k _ _) fun y => ?_
  dsimp only
  refine nextIf EC (4 * k.val + 2) _ _ _ _ _ (by rw [cond4_iff]; show _ ↔ _ < 64; omega) (by omega) (by show _ < 64; omega)
    (by exact fun _ => write_at write1 (by omega)) (fun _ => by exact out_credit _ _ _ _)
    (by intro h; rw [cond4_iff] at h; exact vis_at hr (k0_off15_eq L k) (by omega) _ _) (by exact fun _ => slot_at (k0_off14_eq L) (by omega) _ _)
    (by exact fun _ => read_at read1 (by omega)) numel_pos ?_
  -- block `4 k + 3`
  refine pass EC (4 * k.val + 3) _ _ _ _ _ (by exact read_at read3 (by omega)) (by exact slot_credit _ _ _ _) (by exact slot_at (k0_off8_eq L) (by omega) _ _)
    (by exact out_at (k0_off6_eq L k 3) (by show _ + 4 * 3 = _; omega) _ _) (by exact write_at write3 (by omega)) numel_pos (by show _ < 64; omega) ?_
  refine nextIf EC (4 * k.val + 3) _ _ _ _ _ (by rw [cond5_iff]; show _ ↔ _ < 64; omega) (by omega) (by show _ < 64; omega)
    (by exact fun _ => write_at write2 (by omega)) (fun _ => by exact out_credit _ _ _ _)
    (by intro h; rw [cond5_iff] at h; exact vis_at hr (k0_off17_eq L k) (by omega) _ _) (by exact fun _ => slot_at (k0_off16_eq L) (by omega) _ _)
    (by exact fun _ => read_at read2 (by omega)) numel_pos ?_
  exact ending .rfl

/-- The whole loop with the reads started before it and the first two waits after it. -/
theorem vis_loop (v : BitVec 32) (h1 : k0_cond1 L = 1#1) :
    State EC (ring m d L (visB hr)) none O W 0 0 0 0
      ⊢ wp frame (wpE (defs₀ (F := F)) 𝒱₀ (th d L) none) Set.univ
          (k0_part3 L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h1)
          fun _ => State EC (ring m d L (visB hr)) none O W 64 64 64 62 := by
  have es : (sL L).val = (L 1).val := rfl
  have ec : (cL L).val = (L 0).val := rfl
  rw [k0_part3_eq_skeleton]
  unfold k0_part3_skel
  dsimp only
  refine andThen (fun _ => startRead EC _ _ _ (by exact vis_at hr (k0_off2_eq L 0) (by show _ + 4 * 0 = _; omega) _ _)
    (by exact slot_at (k0_off1_eq L) (by omega) _ _) (by exact read_at read0 (by omega)) numel_pos (by show 0 < 64; omega) (by omega) (by omega)) ?_
  refine andThen (fun _ => startRead EC _ _ _ (by exact vis_at hr (k0_off2_eq L 1) (by show _ + 4 * 1 = _; omega) _ _)
    (by exact slot_at (k0_off3_eq L) (by omega) _ _) (by exact read_at read1 (by omega)) numel_pos (by show 1 < 64; omega) (by omega) (by omega)) ?_
  refine andThen (fun _ => startRead EC _ _ _ (by exact vis_at hr (k0_off2_eq L 2) (by show _ + 4 * 2 = _; omega) _ _)
    (by exact slot_at (k0_off4_eq L) (by omega) _ _) (by exact read_at read2 (by omega)) numel_pos (by show 2 < 64; omega) (by omega) (by omega)) ?_
  refine part (B := Before EC (ring m d L (visB hr)) none O W (4 * k0_t1_loop.trips)) ?_ fun _ => ?_
  · refine BI.Entails.trans ?_ (Scf.wp_for _ _ _ _ _ _ _ _ _ (fun k _ => Before EC (ring m d L (visB hr)) none O W (4 * k)) fun k _ => vis_trip m d L hr O W v h1 k)
    show (_ : sProp 𝕄) ⊢ _
    iintro H
    isplitl [H]
    · iexact H
    · iintro %_ H; iexact H
  · rw [trips1]
    show State EC (ring m d L (visB hr)) none O W 64 64 64 60 ⊢ _
    refine andThen (fun _ => waitWrite EC _ _ (by exact write_at write0 (by omega)) (by exact out_credit _ _ _ _) (by omega) (by omega)) ?_
    refine andThen (fun _ => waitWrite EC _ _ (by exact write_at write1 (by omega)) (by exact out_credit _ _ _ _) (by omega) (by omega)) ?_
    exact ending .rfl

/-- The task's whole run from its ring's first state to its last. -/
theorem vis_task (h1 : k0_cond1 L = 1#1) :
    State EC (ring m d L (visB hr)) none O W 0 0 0 0
      ⊢ wp frame (wpE (defs₀ (F := F)) 𝒱₀ (th d L) none) Set.univ
          (cc0__sc_scatter L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8)
          fun _ => State EC (ring m d L (visB hr)) none O W 64 64 64 64 := by
  have other : ¬ k0_cond6 L = 1#1 := by
    rw [cond6_iff]; have := (cond1_iff L).mp h1; omega
  rw [cc0__sc_scatter_eq_skeleton]
  unfold cc0__sc_scatter_skel
  dsimp only
  rw [dif_pos h1]
  refine part (vis_loop m d L hr O W _ h1) fun _ => ?_
  refine andThen (fun _ => waitWrite EC _ _ (by exact write_at write2 (by omega)) (by exact out_credit _ _ _ _) (by omega) (by omega)) ?_
  refine andThen (fun _ => waitWrite EC _ _ (by exact write_at write3 (by omega)) (by exact out_credit _ _ _ _) (by omega) (by omega)) ?_
  rw [dif_neg other]
  exact ending .rfl

end Vis

section Vlm

variable (O : CellTallies nD τ sig (HIx 1)) (W : Waits sig (HIx 1))

/-- The first part of a trip: block `4 k` goes on its way out, and the read three blocks on starts. -/
theorem vlm_part1 (v : BitVec 32) (h6 : k0_cond6 L = 1#1) (k : Fin k0_t2_loop.trips) (x y : BitVec 32) :
    Before EC (ring m d L (vlmB (cL L) (sL L))) none O W (4 * k.val)
      ⊢ wp frame (wpE (defs₀ (F := F)) 𝒱₀ (th d L) none) Set.univ
          (k0_part4 L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h6 x y k)
          fun _ => Before EC (ring m d L (vlmB (cL L) (sL L))) none O W (4 * k.val + 1) := by
  have hk : k.val < 16 := trips2 ▸ k.isLt
  have es : (sL L).val = (L 1).val := rfl
  have ec : (cL L).val = (L 0).val := rfl
  rw [k0_part4_eq_skeleton]
  unfold k0_part4_skel
  dsimp only
  -- block `4 k`: it has landed, its write starts; the write before it finishes, the read three blocks on starts
  refine pass EC (4 * k.val) _ _ _ _ _ (by exact read_at read0 (by omega)) (by exact slot_credit _ _ _ _) (by exact slot_at (k0_off23_eq L) (by omega) _ _)
    (by exact out_at (k0_off24_eq L k 0) (by show _ + 4 * 0 = _; omega) _ _) (by exact write_at write0 (by omega)) numel_pos (by show _ < 64; omega) ?_
  refine next EC (4 * k.val) _ _ _ _ _ (by rw [cond7_iff]; omega) (by show _ < 64; omega) (by rw [cond7_iff]; exact fun _ => write_at write3 (by omega))
    (fun _ => by exact out_credit _ _ _ _) (by exact vlm_at (k0_off27_eq L k) (by omega) _ _) (by exact slot_at (k0_off26_eq L) (by omega) _ _)
    (by exact read_at read3 (by omega)) numel_pos ?_
  exact ending .rfl

/-- The second part: blocks `4 k + 1` and `4 k + 2` go on their way out, and one read more starts unless this is the
    last trip. -/
theorem vlm_part2 (v : BitVec 32) (h6 : k0_cond6 L = 1#1) (k : Fin k0_t2_loop.trips) (x y : BitVec 32) :
    Before EC (ring m d L (vlmB (cL L) (sL L))) none O W (4 * k.val + 1)
      ⊢ wp frame (wpE (defs₀ (F := F)) 𝒱₀ (th d L) none) Set.univ
          (k0_part5 L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h6 k x y)
          fun _ => Passed EC (ring m d L (vlmB (cL L) (sL L))) none O W (4 * k.val + 2) := by
  have hk : k.val < 16 := trips2 ▸ k.isLt
  have es : (sL L).val = (L 1).val := rfl
  have ec : (cL L).val = (L 0).val := rfl
  rw [k0_part5_eq_skeleton]
  unfold k0_part5_skel
  dsimp only
  -- block `4 k + 1`
  refine pass EC (4 * k.val + 1) _ _ _ _ _ (by exact read_at read1 (by omega)) (by exact slot_credit _ _ _ _) (by exact slot_at (k0_off28_eq L) (by omega) _ _)
    (by exact out_at (k0_off24_eq L k 1) (by show _ + 4 * 1 = _; omega) _ _) (by exact write_at write1 (by omega)) numel_pos (by show _ < 64; omega) ?_
  refine nextIf EC (4 * k.val + 1) _ _ _ _ _ (by rw [cond8_iff]; show _ ↔ _ < 64; omega) (by omega) (by show _ < 64; omega)
    (by exact fun _ => write_at write0 (by omega)) (fun _ => by exact out_credit _ _ _ _)
    (by intro h; rw [cond8_iff] at h; exact vlm_at (k0_off30_eq L k) (by omega) _ _) (by exact fun _ => slot_at (k0_off29_eq L) (by omega) _ _)
    (by exact fun _ => read_at read0 (by omega)) numel_pos ?_
  -- block `4 k + 2`
  refine pass EC (4 * k.val + 2) _ _ _ _ _ (by exact read_at read2 (by omega)) (by exact slot_credit _ _ _ _) (by exact slot_at (k0_off31_eq L) (by omega) _ _)
    (by exact out_at (k0_off24_eq L k 2) (by show _ + 4 * 2 = _; omega) _ _) (by exact write_at write2 (by omega)) numel_pos (by show _ < 64; omega) ?_
  exact ending .rfl

/-- One trip of a tile that copies `vlm`. -/
theorem vlm_trip (v : BitVec 32) (h6 : k0_cond6 L = 1#1) (k : Fin k0_t2_loop.trips) :
    Before EC (ring m d L (vlmB (cL L) (sL L))) none O W (4 * k.val)
      ⊢ wp frame (wpE (defs₀ (F := F)) 𝒱₀ (th d L) none) Set.univ
          (k0_t2_body L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h6 k ⟨⟩)
          fun _ => Before EC (ring m d L (vlmB (cL L) (sL L))) none O W (4 * (k.val + 1)) := by
  have hk : k.val < 16 := trips2 ▸ k.isLt
  have es : (sL L).val = (L 1).val := rfl
  have ec : (cL L).val = (L 0).val := rfl
  unfold k0_t2_body
  dsimp only
  refine part (vlm_part1 m d L O W v h6 k _ _) fun x => ?_
  refine part (vlm_part2 m d L O W v h6 k _ _) fun y => ?_
  dsimp only
  refine nextIf EC (4 * k.val + 2) _ _ _ _ _ (by rw [cond9_iff]; show _ ↔ _ < 64; omega) (by omega) (by show _ < 64; omega)
    (by exact fun _ => write_at write1 (by omega)) (fun _ => by exact out_credit _ _ _ _)
    (by intro h; rw [cond9_iff] at h; exact vlm_at (k0_off33_eq L k) (by omega) _ _) (by exact fun _ => slot_at (k0_off32_eq L) (by omega) _ _)
    (by exact fun _ => read_at read1 (by omega)) numel_pos ?_
  -- block `4 k + 3`
  refine pass EC (4 * k.val + 3) _ _ _ _ _ (by exact read_at read3 (by omega)) (by exact slot_credit _ _ _ _) (by exact slot_at (k0_off26_eq L) (by omega) _ _)
    (by exact out_at (k0_off24_eq L k 3) (by show _ + 4 * 3 = _; omega) _ _) (by exact write_at write3 (by omega)) numel_pos (by show _ < 64; omega) ?_
  refine nextIf EC (4 * k.val + 3) _ _ _ _ _ (by rw [cond10_iff]; show _ ↔ _ < 64; omega) (by omega) (by show _ < 64; omega)
    (by exact fun _ => write_at write2 (by omega)) (fun _ => by exact out_credit _ _ _ _)
    (by intro h; rw [cond10_iff] at h; exact vlm_at (k0_off35_eq L k) (by omega) _ _) (by exact fun _ => slot_at (k0_off34_eq L) (by omega) _ _)
    (by exact fun _ => read_at read2 (by omega)) numel_pos ?_
  exact ending .rfl

/-- The whole loop with the reads started before it and the first two waits after it. -/
theorem vlm_loop (v : BitVec 32) (h6 : k0_cond6 L = 1#1) :
    State EC (ring m d L (vlmB (cL L) (sL L))) none O W 0 0 0 0
      ⊢ wp frame (wpE (defs₀ (F := F)) 𝒱₀ (th d L) none) Set.univ
          (k0_part6 L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8 v h6)
          fun _ => State EC (ring m d L (vlmB (cL L) (sL L))) none O W 64 64 64 62 := by
  have es : (sL L).val = (L 1).val := rfl
  have ec : (cL L).val = (L 0).val := rfl
  rw [k0_part6_eq_skeleton]
  unfold k0_part6_skel
  dsimp only
  refine andThen (fun _ => startRead EC _ _ _ (by exact vlm_at (k0_off20_eq L 0) (by show _ + 4 * 0 = _; omega) _ _)
    (by exact slot_at (k0_off19_eq L) (by omega) _ _) (by exact read_at read0 (by omega)) numel_pos (by show 0 < 64; omega) (by omega) (by omega)) ?_
  refine andThen (fun _ => startRead EC _ _ _ (by exact vlm_at (k0_off20_eq L 1) (by show _ + 4 * 1 = _; omega) _ _)
    (by exact slot_at (k0_off21_eq L) (by omega) _ _) (by exact read_at read1 (by omega)) numel_pos (by show 1 < 64; omega) (by omega) (by omega)) ?_
  refine andThen (fun _ => startRead EC _ _ _ (by exact vlm_at (k0_off20_eq L 2) (by show _ + 4 * 2 = _; omega) _ _)
    (by exact slot_at (k0_off22_eq L) (by omega) _ _) (by exact read_at read2 (by omega)) numel_pos (by show 2 < 64; omega) (by omega) (by omega)) ?_
  refine part (B := Before EC (ring m d L (vlmB (cL L) (sL L))) none O W (4 * k0_t2_loop.trips)) ?_ fun _ => ?_
  · refine BI.Entails.trans ?_ (Scf.wp_for _ _ _ _ _ _ _ _ _ (fun k _ => Before EC (ring m d L (vlmB (cL L) (sL L))) none O W (4 * k)) fun k _ => vlm_trip m d L O W v h6 k)
    show (_ : sProp 𝕄) ⊢ _
    iintro H
    isplitl [H]
    · iexact H
    · iintro %_ H; iexact H
  · rw [trips2]
    show State EC (ring m d L (vlmB (cL L) (sL L))) none O W 64 64 64 60 ⊢ _
    refine andThen (fun _ => waitWrite EC _ _ (by exact write_at write0 (by omega)) (by exact out_credit _ _ _ _) (by omega) (by omega)) ?_
    refine andThen (fun _ => waitWrite EC _ _ (by exact write_at write1 (by omega)) (by exact out_credit _ _ _ _) (by omega) (by omega)) ?_
    exact ending .rfl

/-- The task's whole run from its ring's first state to its last. -/
theorem vlm_task (h6 : k0_cond6 L = 1#1) :
    State EC (ring m d L (vlmB (cL L) (sL L))) none O W 0 0 0 0
      ⊢ wp frame (wpE (defs₀ (F := F)) 𝒱₀ (th d L) none) Set.univ
          (cc0__sc_scatter L vlmM (Memref.isWhole_whole _) visM (Memref.isWhole_whole _) outM (Memref.isWhole_whole _) spM (Memref.isWhole_whole _)
            cc0_scratch1 cc0_scratch2 cc0_scratch3 cc0_scratch4 cc0_scratch5 cc0_scratch6 cc0_scratch7 cc0_scratch8)
          fun _ => State EC (ring m d L (vlmB (cL L) (sL L))) none O W 64 64 64 64 := by
  have other : ¬ k0_cond1 L = 1#1 := by
    rw [cond1_iff]; have := (cond6_iff L).mp h6; omega
  rw [cc0__sc_scatter_eq_skeleton]
  unfold cc0__sc_scatter_skel
  dsimp only
  rw [dif_neg other, dif_pos h6]
  refine part (vlm_loop m d L O W _ h6) fun _ => ?_
  refine andThen (fun _ => waitWrite EC _ _ (by exact write_at write2 (by omega)) (by exact out_credit _ _ _ _) (by omega) (by omega)) ?_
  refine andThen (fun _ => waitWrite EC _ _ (by exact write_at write3 (by omega)) (by exact out_credit _ _ _ _) (by omega) (by omega)) ?_
  exact ending .rfl

end Vlm

end Cert.Proof.Copy

end
-- ==== Proof.Task.lean ====
/-
  What a task is given and what it gives back, around its ring's run: its rows of both sources come back as they were,
  its rows of the result at `final`.
-/
module

public import proofs.«01_k».proof.Proof.Tile

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open CopyRing (Ring State)

variable {F : FTy → Type}

local notation "𝕄" => MT nD τ sig (HIx 1) (Elt F) ℕ UU ℕ

variable [FloatOps F] [∀ e, Nonempty (Elt F e)]
variable (m : (ℓ : Loc nD τ sig) → Buf (Elt F) ℓ) (d : Dev nD) (L : grid0.Coords)

/-- A task's program. -/
abbrev task : Prog (TpuEff nD τ sig (Elt F) Λ₀ (.scVector ((L 0).castLE hcore0) ((L 1).castLE hsub0))) PUnit :=
  cc0__sc_scatter L vlmM (Memref.isWhole_whole _) visM (Memref.isWhole_whole _) outM (Memref.isWhole_whole _) spM (Memref.isWhole_whole _)
    cc0_scratch1 cc0_scratch2 cc0_scratch3 cc0_scratch4 cc0_scratch5 cc0_scratch6 cc0_scratch7 cc0_scratch8

/-- A task whose ring runs from its first state to its last, given the rows `A` its source blocks make up, its rows of
    the result and its part of the scratch, gives back `A`, the rows of the result at `final`, and that part. -/
theorem task_of_ring (src : ℕ → Memref sig .scVector .hbm S4x4096 .f32) (A : sProp 𝕄)
    (hA : A = bigSep (Finset.Ico 0 64) (CopyRing.source (ring m d L src))) (O : CellTallies nD τ sig (HIx 1)) (W : Waits sig (HIx 1))
    (hO : ∀ g, O g none = 0)
    (run : State EC (ring m d L src) none O W 0 0 0 0
      ⊢ wp frame (wpE (defs₀ (F := F)) 𝒱₀ (th d L) none) Set.univ (task L) fun _ => State EC (ring m d L src) none O W 64 64 64 64) :
    iprop(levAts (K (F := F)).L (K (F := F)).lev ∗ A ∗ (outLoc d ↦[tileRows 8192 (cL L) (sL L)]{fullShare} m (outLoc d))
        ∗ (∃ f : Buf (Elt F) (spLoc d ((L 0).castLE hcore0)), spLoc d ((L 0).castLE hcore0) ↦[tileSlots (sL L)]{fullShare} f)
        ∗ ownSems0 (th d L) ∗ owes (th d L) O W)
      ⊢ wp frame (wpE (defs₀ (F := F)) 𝒱₀ (th d L) none) Set.univ (task L)
          fun _ => iprop(A ∗ (outLoc d ↦[tileRows 8192 (cL L) (sL L)]{fullShare} final m d)
            ∗ (∃ f : Buf (Elt F) (spLoc d ((L 0).castLE hcore0)), spLoc d ((L 0).castLE hcore0) ↦[tileSlots (sL L)]{fullShare} f)
            ∗ ownSems0 (th d L) ∗ ∃ W', ⌜∀ p ∈ W', p ∈ W ∨ p.2 = none ∨ p.2 = some (0 : Fin 1)⌝ ∗ owes (th d L) O W') := by
  have hout : (outLoc d ↦[tileRows 8192 (cL L) (sL L)]{fullShare} m (outLoc d))
      ⊢ (bigSep (Finset.Ico 0 64) (CopyRing.unwritten (ring m d L src)) : sProp 𝕄) := by
    rw [out_blocks]
    exact SparseCore.ent (bigSep_mono fun j _ => by
      show (_ : sProp 𝕄) ⊢ _
      iintro H; iexists _; iexact H)
  have hfin : (bigSep (Finset.Ico 0 64) (CopyRing.written (ring m d L src)) : sProp 𝕄)
      ⊢ (outLoc d ↦[tileRows 8192 (cL L) (sL L)]{fullShare} final m d) := by
    rw [out_blocks]; exact .rfl
  have hstart : iprop((bigSep (Finset.Ico 0 4) fun j => iprop(semVal (readCell d L j) 0 ∗ semVal (writeCell d L j) 0))
        ∗ (bigSep (Finset.Ico 0 4) fun j => iprop(∃ Y, owns (th d L) (slotB (sL L) j) fullShare Y))
        ∗ bigSep (Finset.Ico 0 64) (CopyRing.source (ring m d L src)) ∗ bigSep (Finset.Ico 0 64) (CopyRing.unwritten (ring m d L src))
        ∗ CopyRing.duty none O W (th d L)) ⊢ (State EC (ring m d L src) none O W 0 0 0 0 : sProp 𝕄) :=
    CopyRing.start EC (ring m d L src) none O W
  have hend : (State EC (ring m d L src) none O W 64 64 64 64 : sProp 𝕄)
      ⊢ iprop((bigSep (Finset.Ico 0 4) fun j => iprop(semVal (readCell d L j) 0 ∗ semVal (writeCell d L j) 0))
        ∗ (bigSep (Finset.Ico 0 4) fun j => iprop(∃ Y, owns (th d L) (slotB (sL L) j) fullShare Y))
        ∗ bigSep (Finset.Ico 0 64) (CopyRing.source (ring m d L src)) ∗ bigSep (Finset.Ico 0 64) (CopyRing.written (ring m d L src))
        ∗ CopyRing.duty none O W (th d L)) :=
    CopyRing.finish EC (ring m d L src) none O W 16 rfl
  rw [sems_eq, hA]
  iintro ⟨#Hlv, HA, Ho, Hsp, ⟨Hcells, Hsems⟩, HO⟩
  iapply (wp_wand_r frame (wpE (defs₀ (F := F)) 𝒱₀ (th d L) none) Set.univ)
  isplitr [Hsems]
  · iapply run
    iapply hstart
    isplitl [Hcells]; · iexact Hcells
    isplitl [Hsp]; · iapply (slots_in d L); iexact Hsp
    isplitl [HA]; · iexact HA
    isplitl [Ho]; · iapply hout; iexact Ho
    unfold CopyRing.duty
    isplitr
    · iapply ((K (F := F)).mayWaits_none (thr := th d L) hO); iexact Hlv
    · iexists W
      isplitr
      · ipureintro; exact fun p hp => .inl hp
      · iexact HO
  · iintro %_ HS
    ihave HS' := hend $$ HS
    unfold CopyRing.duty
    icases HS' with ⟨Hcells, Hsp, HA, Ho, -, %W', %hW, HO⟩
    isplitl [HA]; · iexact HA
    isplitl [Ho]; · iapply hfin; iexact Ho
    isplitl [Hsp]; · iapply (slots_out d L); iexact Hsp
    isplitl [Hcells Hsems]
    · isplitl [Hcells]; · iexact Hcells
      iexact Hsems
    · iexists W'
      isplitr
      · ipureintro; exact fun p hp => (hW p hp).imp_right .inl
      · iexact HO

/-- The task at a symbolic SparseCore and tile: from its rows of the arrays and its part of the scratch to the same
    with its rows of the result at `final`, its semaphores back at zero. -/
theorem tile_body (hF : (K (F := F)).Facts) (O : CellTallies nD τ sig (HIx 1)) (W : Waits sig (HIx 1)) (hO : ∀ g, O g none = 0) :
    iprop(levAts (K (F := F)).L (K (F := F)).lev ∗ emp ∗ tileHas m d ((L 0).castLE hcore0) (cL L) (sL L) (m (outLoc d))
        ∗ scopedBufs (th d L) ∗ scopedSems0 (th d L) ∗ owes (th d L) O W)
      ⊢ wp frame (wpE (defs₀ (F := F)) 𝒱₀ (th d L) none) Set.univ (task L)
          fun _ => iprop(tileHas m d ((L 0).castLE hcore0) (cL L) (sL L) (final m d) ∗ scopedBufs (th d L) ∗ scopedSems0 (th d L)
            ∗ ∃ W', ⌜∀ p ∈ W', p ∈ W ∨ p.2 = none ∨ p.2 = some (0 : Fin 1)⌝ ∗ owes (th d L) O W') := by
  rw [SparseCore.Cfg.scopedSems0_V (Val := Elt F) d ((L 0).castLE hcore0) ((L 1).castLE hsub0)]
  iintro ⟨#Hlv, -, ⟨Hvlm, Hvis, Ho, Hsp⟩, Hb, Hs, HO⟩
  by_cases h : 512 * (L 1).val + 256 * (L 0).val < 4096
  · have hr : 512 * (sL L).val + 256 * (cL L).val + 256 ≤ 4096 := by
      show 512 * (L 1).val + 256 * (L 0).val + 256 ≤ 4096; omega
    iapply (wp_wand_r frame (wpE (defs₀ (F := F)) 𝒱₀ (th d L) none) Set.univ)
    isplitr [Hvlm Hb]
    · iapply (task_of_ring m d L (visB hr) _ ((vis_blocks d L hr (m (visLoc d))).trans (bigSep_congr fun j _ =>
          congrArg (fun X => owns (th d L) (visB hr j) fullShare X) (blockVal_vis m d L hr j))) O W hO
        (vis_task m d L hr O W ((cond1_iff L).mpr h)))
      isplitr; · iexact Hlv
      isplitl [Hvis]; · iexact Hvis
      isplitl [Ho]; · iexact Ho
      isplitl [Hsp]; · iexact Hsp
      isplitl [Hs]; · iexact Hs
      iexact HO
    · iintro %_ ⟨Hvis, Ho, Hsp, Hs, HO⟩
      isplitr [Hb Hs HO]
      · isplitl [Hvlm]; · iexact Hvlm
        isplitl [Hvis]; · iexact Hvis
        isplitl [Ho]; · iexact Ho
        iexact Hsp
      isplitl [Hb]; · iexact Hb
      isplitl [Hs]; · iexact Hs
      iexact HO
  · iapply (wp_wand_r frame (wpE (defs₀ (F := F)) 𝒱₀ (th d L) none) Set.univ)
    isplitr [Hvis Hb]
    · iapply (task_of_ring m d L (vlmB (cL L) (sL L)) _ ((vlm_blocks d L (m (vlmLoc d))).trans (bigSep_congr fun j _ =>
          congrArg (fun X => owns (th d L) (vlmB (cL L) (sL L) j) fullShare X)
            (blockVal_vlm m d L (by show 4096 ≤ 512 * (L 1).val + 256 * (L 0).val; omega) j))) O W hO
        (vlm_task m d L O W ((cond6_iff L).mpr (by omega))))
      isplitr; · iexact Hlv
      isplitl [Hvlm]; · iexact Hvlm
      isplitl [Ho]; · iexact Ho
      isplitl [Hsp]; · iexact Hsp
      isplitl [Hs]; · iexact Hs
      iexact HO
    · iintro %_ ⟨Hvlm, Ho, Hsp, Hs, HO⟩
      isplitr [Hb Hs HO]
      · isplitl [Hvlm]; · iexact Hvlm
        isplitl [Hvis]; · iexact Hvis
        isplitl [Ho]; · iexact Ho
        iexact Hsp
      isplitl [Hb]; · iexact Hb
      isplitl [Hs]; · iexact Hs
      iexact HO

end Cert.Proof.Copy

end
-- ==== Proof.Launch.lean ====
/-
  The launch: the arrays are dealt to the two SparseCores by row, each core's rows and its shared scratch to its sixteen
  tiles, and everything comes back with the result at `final`; so the program's run ends with its arguments as they were,
  the result at `final`, and every semaphore at zero.
-/
module

public import proofs.«01_k».proof.Proof.Task

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## A tile's task -/

/-- The place of a task in the call's grid. -/
def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => task (F := F) (coordsV c s)) ⟨⟩ c s := rfl

variable [∀ e, Nonempty (Elt F e)]

set_option maxRecDepth 16384 in
/-- Every task of the call runs from what it is given to what it gives back. -/
theorem tileObl (hF : (K (F := F)).Facts) : (K (F := F)).TileObl (D (F := F)) 𝒱 (P m) v₀ 0 := by
  intro d c i O W hO _ _
  have hci : ((K (F := F)).core 0 c).val < grid0.bound 0 ∧ ((K (F := F)).sub 0 i).val < grid0.bound 1 := ⟨c.isLt, i.isLt⟩
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs (defs₀ (F := F))) 𝒱₀ _ Set.univ none _ _)
  rw [defs₀_vector]
  simp only [SparseCore.onTile, hci, and_self, ↓reduceDIte]
  exact tile_body m d (coordsV ⟨_, hci.1⟩ ⟨_, hci.2⟩) hF O W hO

/-! ## A SparseCore's rows and scratch, dealt to its tiles -/

omit [FloatOps F] [∀ e, Nonempty (Elt F e)] in
/-- The shared scratch is among the sequencer's own buffers: it is it, at some contents, and the rest. -/
theorem ownBufs_S (d : Dev nD) (c : Fin τ.nSC) :
    (ownBufs (S d c) : sProp 𝕄)
      = iprop((∃ f, spLoc d c ↦{fullShare} f) ∗ bigSep ((ownRefs (τ := τ) (.scScalar c)).erase (spRef c)) fun b => iprop(∃ f, ((d, b) : Loc nD τ sig) ↦{fullShare} f)) := by
  unfold SparseCore.Cfg.ownBufs
  have h : spRef c ∈ ownRefs (τ := τ) (sig := sig) (.scScalar c) := (mem_ownRefs (p := Proc.scScalar c) (b := spRef c)).mpr rfl
  exact SparseCore.bigSep_erase' h

omit [FloatOps F] [∀ e, Nonempty (Elt F e)] in
/-- A product over the call's tiles, or its SparseCores, is one over their numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [∀ e, Nonempty (Elt F e)] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The shared scratch is its sixteen parts, each at some contents; -/
theorem scratch_split (d : Dev nD) (κ : Fin τ.nSC) :
    (iprop(∃ f, spLoc d κ ↦{fullShare} f) : sProp 𝕄)
      ⊢ bigSep Finset.univ fun s : Fin 16 => iprop(∃ f : Buf (Elt F) (spLoc d κ), spLoc d κ ↦[tileSlots s]{fullShare} f) := by
  iintro ⟨%f, H⟩
  ihave H' := (Entails.of_eq (pts_split (ℓ := spLoc d κ) Finset.univ spTile f)) $$ H
  iapply (SparseCore.ent (bigSep_mono (Φ := fun s : Fin 16 => iprop(spLoc d κ ↦[Finset.univ.filter fun i => spTile i = s]{fullShare} f))
    (Ψ := fun s : Fin 16 => iprop(∃ f : Buf (Elt F) (spLoc d κ), spLoc d κ ↦[tileSlots s]{fullShare} f))
    fun s _ => BI.BIClass.exists_intro (Φ := fun f : Buf (Elt F) (spLoc d κ) => iprop(spLoc d κ ↦[tileSlots s]{fullShare} f)) f))
  iexact H'

omit [FloatOps F] in
/-- and the parts, each at some contents, are it. -/
theorem scratch_join (d : Dev nD) (κ : Fin τ.nSC) :
    (bigSep Finset.univ fun s : Fin 16 => iprop(∃ f : Buf (Elt F) (spLoc d κ), spLoc d κ ↦[tileSlots s]{fullShare} f))
      ⊢ (iprop(∃ f, spLoc d κ ↦{fullShare} f) : sProp 𝕄) := by
  haveI : Nonempty (Buf (Elt F) (spLoc d κ)) := ⟨fun _ => Classical.arbitrary _⟩
  exact pts_join (ℓ := spLoc d κ) Finset.univ spTile

omit [FloatOps F] [∀ e, Nonempty (Elt F e)] in
/-- What a SparseCore has of the arrays, with the parts of its scratch, is what its tiles have. -/
theorem core_tiles (d : Dev nD) (κ : Fin τ.nSC) (c : Fin 2) (g : Buf (Elt F) (outLoc d)) :
    (bigSep Finset.univ fun s : Fin 16 => tileHas m d κ c s g)
      = iprop((vlmLoc d ↦[coreRows 8192 c]{fullShare} m (vlmLoc d)) ∗ (visLoc d ↦[coreRows 4096 c]{fullShare} m (visLoc d))
        ∗ (outLoc d ↦[coreRows 8192 c]{fullShare} g)
        ∗ bigSep Finset.univ fun s : Fin 16 => iprop(∃ f : Buf (Elt F) (spLoc d κ), spLoc d κ ↦[tileSlots s]{fullShare} f)) := by
  rw [pts_split (ℓ := vlmLoc d) (coreRows 8192 c) (fun i => tileOf (i 0).val), pts_split (ℓ := visLoc d) (coreRows 4096 c) (fun i => tileOf (i 0).val),
    pts_split (ℓ := outLoc d) (coreRows 8192 c) (fun i => tileOf (i 0).val), ← bigSep_sep', ← bigSep_sep', ← bigSep_sep']
  rfl

omit [FloatOps F] in
/-- A SparseCore's sequencer deals its rows and its scratch to its tiles and gathers them again. -/
theorem vecSplit : (K (F := F)).VecSplit (P m) 0 := by
  intro d c
  show iprop(coreHas m d (Fin.cast nCore_zero c) (m (outLoc d)) ∗ ownBufs (S d ((K (F := F)).core 0 c))) ⊢ |={Set.univ}=> iprop(
      (bigSep Finset.univ fun i : Fin ((K (F := F)).nSub 0) =>
        tileHas m d ((K (F := F)).core 0 c) (Fin.cast nCore_zero c) (Fin.cast nSub_zero i) (m (outLoc d)))
      ∗ ((bigSep Finset.univ fun i : Fin ((K (F := F)).nSub 0) =>
          tileHas m d ((K (F := F)).core 0 c) (Fin.cast nCore_zero c) (Fin.cast nSub_zero i) (final m d))
        -∗ iprop(coreHas m d (Fin.cast nCore_zero c) (final m d) ∗ ownBufs (S d ((K (F := F)).core 0 c)))))
  rw [bigSep_tasks (F := F) (fun i => tileHas m d ((K (F := F)).core 0 c) (Fin.cast nCore_zero c) i (m (outLoc d))),
    bigSep_tasks (F := F) (fun i => tileHas m d ((K (F := F)).core 0 c) (Fin.cast nCore_zero c) i (final m d)), core_tiles, core_tiles, ownBufs_S]
  iintro ⟨⟨Hvlm, Hvis, Ho⟩, Hsp, Hrest⟩; imodintro
  isplitl [Hvlm Hvis Ho Hsp]
  · isplitl [Hvlm]; · iexact Hvlm
    isplitl [Hvis]; · iexact Hvis
    isplitl [Ho]; · iexact Ho
    iapply (scratch_split d ((K (F := F)).core 0 c)); iexact Hsp
  iintro ⟨Hvlm, Hvis, Ho, Hsp⟩
  isplitl [Hvlm Hvis Ho]
  · isplitl [Hvlm]; · iexact Hvlm
    isplitl [Hvis]; · iexact Hvis
    iexact Ho
  isplitl [Hsp]; · iapply (scratch_join d ((K (F := F)).core 0 c)); iexact Hsp
  iexact Hrest

/-! ## The launch's ghost state: the handshakes' rounds, and the unit of the counters -/

def u₀ : UU := (initOf (K (F := F)).hsCells (K (F := F)).hsToks, 1)

omit [FloatOps F] [∀ e, Nonempty (Elt F e)] in
/-- Nothing, many times, is nothing. -/
theorem nothing {I : Type} (s : Finset I) : (iprop(emp) : sProp 𝕄) ⊢ bigSep s fun _ => iprop(emp) := Entails.of_eq (bigSep_emp_const s).symm

omit [FloatOps F] [∀ e, Nonempty (Elt F e)] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · iapply (nothing Finset.univ); iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (nothing Finset.univ); iempintro

/-! ## The program on the TensorCore -/

omit [FloatOps F] [∀ e, Nonempty (Elt F e)] in
theorem unscopedBufs_eq (d : Dev nD) (W : (b : Ref sig .tc) → Buf (Elt F) ((d.tc : Thread nD τ).loc b)) :
    (unscopedBufs d W : sProp 𝕄) = iprop((vlmLoc d ↦{fullShare} W main_arg0) ∗ (visLoc d ↦{fullShare} W main_arg1)
      ∗ (idxLoc d ↦{fullShare} W main_arg2) ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The two SparseCores' rows are the arrays. -/
theorem cores_eq (d : Dev nD) (g : Buf (Elt F) (outLoc d)) :
    (bigSep Finset.univ fun c : Fin 2 => coreHas m d c g)
      = iprop((vlmLoc d ↦{fullShare} m (vlmLoc d)) ∗ (visLoc d ↦{fullShare} m (visLoc d)) ∗ outLoc d ↦{fullShare} g) := by
  rw [pts_split (ℓ := vlmLoc d) Finset.univ (fun i => coreOf (i 0).val), pts_split (ℓ := visLoc d) Finset.univ (fun i => coreOf (i 0).val),
    pts_split (ℓ := outLoc d) Finset.univ (fun i => coreOf (i 0).val), ← bigSep_sep', ← bigSep_sep']
  rfl

/-- What the call takes for its SparseCores, and what they hand back. -/
theorem st0_eq (d : Dev nD) : (bigSep Finset.univ fun c : Fin ((K (F := F)).nCore 0) => (P m).st 0 d c)
    = iprop((vlmLoc d ↦{fullShare} m (vlmLoc d)) ∗ (visLoc d ↦{fullShare} m (visLoc d)) ∗ outLoc d ↦{fullShare} m (outLoc d)) :=
  (bigSep_cores fun c => coreHas m d c (m (outLoc d))).trans (cores_eq m d _)
theorem dn0_eq (d : Dev nD) : (bigSep Finset.univ fun c : Fin ((K (F := F)).nCore 0) => (P m).dn 0 d c)
    = iprop((vlmLoc d ↦{fullShare} m (vlmLoc d)) ∗ (visLoc d ↦{fullShare} m (visLoc d)) ∗ outLoc d ↦{fullShare} final m d) :=
  (bigSep_cores fun c => coreHas m d c (final m d)).trans (cores_eq m d _)

/-- What the program leaves: its arguments as they were, its result at `final`. -/
abbrev FIN (d : Dev nD) : sProp 𝕄 := iprop((vlmLoc d ↦{fullShare} m (vlmLoc d)) ∗ (visLoc d ↦{fullShare} m (visLoc d))
  ∗ (idxLoc d ↦{fullShare} m (idxLoc d)) ∗ outLoc d ↦{fullShare} final m d)

/-- The program on device `d`'s TensorCore: the one call, the arrays lent to it, the indices kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hvlm, Hvis, Hidx, Ho⟩, Hts, -⟩, -⟩
  iapply ((K (F := F)).wp_run (D (F := F)) 𝒱 (EH := EH) (P := P m) κ d 0) $$ [Hst Hvlm Hvis Hidx Ho Hb Hts]
  isplitr; · iexact Hctx
  isplitl [Hst]; · iexact Hst
  isplitl [Hvlm Hvis Ho]
  · rw [st0_eq]
    isplitl [Hvlm]; · iexact Hvlm
    isplitl [Hvis]; · iexact Hvis
    iexact Ho
  iintro ⟨Hst, Hdn⟩
  ihave Hdn' := (Entails.of_eq (dn0_eq m d)) $$ Hdn
  icases Hdn' with ⟨Hvlm, Hvis, Ho⟩
  imodintro
  isplitl [Hst]; · iexact Hst
  isplitr [Hb Hts]
  · isplitl [Hvlm]; · iexact Hvlm
    isplitl [Hvis]; · iexact Hvis
    isplitl [Hidx]; · iexact Hidx
    iexact Ho
  isplitl [Hb] <;> iassumption

/-- What is read off a final state on device `d`. -/
def fq (d : Dev nD) (s' : Phys nD τ sig (Elt F)) : Prop :=
  s'.mem.mem (vlmLoc d) = m (vlmLoc d) ∧ s'.mem.mem (visLoc d) = m (visLoc d) ∧ s'.mem.mem (idxLoc d) = m (idxLoc d)
    ∧ s'.mem.mem (outLoc d) = final m d

omit [FloatOps F] [∀ e, Nonempty (Elt F e)] in
/-- An array held whole is what the state's memory has there. -/
theorem read_off (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] [∀ e, Nonempty (Elt F e)] in
theorem hfin (d : Dev nD) (s' : Phys nD τ sig (Elt F)) : iprop(FIN m d ∗ SI s') ⊢ (⌜fq m d s'⌝ : sProp 𝕄) := fun x hx =>
  ⟨((sep_mono_left sep_elim_left).trans (read_off _ _ s')) x hx,
    ((sep_mono_left (sep_elim_right.trans sep_elim_left)).trans (read_off _ _ s')) x hx,
    ((sep_mono_left (sep_elim_right.trans (sep_elim_right.trans sep_elim_left))).trans (read_off _ _ s')) x hx,
    ((sep_mono_left (sep_elim_right.trans (sep_elim_right.trans sep_elim_right))).trans (read_off _ _ s')) x hx⟩

/-! ## The program's run -/

/-- The run's post: on every device the arguments are as they were and the result is `final`; every semaphore is zero. -/
def QC : PUnit × MemSt nD τ sig (Elt F) → Prop := fun r =>
  (∀ c : Dev nD, r.2.mem (vlmLoc c) = m (vlmLoc c) ∧ r.2.mem (visLoc c) = m (visLoc c) ∧ r.2.mem (idxLoc c) = m (idxLoc c)
    ∧ r.2.mem (outLoc c) = final m c) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Reference.lean ====
/-
  The reference's run: it sets row `idx k` of `vlm` to row `k` of `vis`. Where the index list is 0, 1, 2, … that is the
  rows of `vis` followed by the last rows of `vlm`.
-/
module

public import proofs.«01_k».proof.Defs
public import proofs.«01_k».proof.Proof.Gen.ReferenceIdeal
public import proofs.«01_k».proof.Proof.Gen.ReferenceIdeal.Run
public import proofs.«01_k».proof.Proof.Gen.Pre_first_rows
public import Idealize.ShloMosaic.Lib.ReduceAll
public import Idealize.ShloMosaic.Lib.Quiescent
public import Idealize.ShloMosaic.Lib.WordCmp
public import Idealize.ShloMosaic.Lib.Routing.OpsPair
public import Idealize.ShloMosaic.Lib.Routing.OpsSet

@[expose] public section

noncomputable section

namespace Cert.Proof.Reference

open Cert.ReferenceIdeal Cert.ReferenceIdeal.Gen Idealize.ShloMosaic Idealize.ShloMosaic.TcCoe Idealize.SL.Sem
open Idealize.ShloMosaic.Routing Idealize.ShloMosaic.ValueIdx

variable {F : FTy → Type} [FloatOps F]

abbrev dims : ScatterDims S8192x4096 S4096x1 S4096x4096 := scatter_S8192x4096_S4096x1_S4096x4096_1_0_0_1

/-- Row `k` of the update starts at the row its index word names. -/
theorem start_row (k c : Fin 4096) (idx : IVec S4096x1 32) :
    dims.start (ix2 k c : S4096x4096.Idx) idx 0 = (idx (ix2 k (0 : Fin 1))).toInt := by
  have hm : (0 : Fin 2) ∈ dims.scatterDimsToOperandDims := List.mem_singleton.2 rfl
  unfold ScatterDims.start
  rw [dif_pos hm]
  congr 2
  funext b
  match b with
  | 0 => rfl
  | 1 => exact Subsingleton.elim (α := Fin 1) _ _

/-- An element of the update lands in the row its index word names, in its own column. -/
theorem lands (k c' : Fin 4096) (idx : IVec S4096x1 32) (r : Fin 8192) (c : Fin 4096) :
    dims.resultIdx? (ix2 k c' : S4096x4096.Idx) idx = some (ix2 r c) ↔ (idx (ix2 k (0 : Fin 1))).toInt = (r.val : Int) ∧ c' = c := by
  have h0 : dims.window (ix2 k c' : S4096x4096.Idx) 0 = 0 := rfl
  have h1 : dims.window (ix2 k c' : S4096x4096.Idx) 1 = c'.val := rfl
  have hs : dims.start (ix2 k c' : S4096x4096.Idx) idx 1 = 0 := rfl
  rw [resultIdx?_ix2 (R := 8192) (C := 4096) dims, start_row, h0, h1, hs]
  omega

/-- Rows set at the indices 0, 1, 2, …: the update's rows, then the operand's. -/
theorem scatter_first {α : Type} (x : S8192x4096.Idx → α) (idx : IVec S4096x1 32) (u : S4096x4096.Idx → α)
    (h : ∀ k : Fin 4096, (idx (ix2 k (0 : Fin 1))).toInt = (k.val : Int)) (r : Fin 8192) (c : Fin 4096) :
    Host.scatter dims (fun _ b => b) x idx u (ix2 r c) = if hr : r.val < 4096 then u (ix2 (⟨r.val, hr⟩ : Fin 4096) c) else x (ix2 r c) := by
  have at_row : ∀ k c' : Fin 4096, dims.resultIdx? (ix2 k c' : S4096x4096.Idx) idx = some (ix2 r c) ↔ k.val = r.val ∧ c' = c := fun k c' => by
    rw [lands, h k, Int.ofNat_inj]
  split
  · next hr =>
    refine scatter_set_hit dims x idx u _ _ (fun k hk => ?_) (ix2 (⟨r.val, hr⟩ : Fin 4096) c) ((at_row _ _).2 ⟨rfl, rfl⟩)
    obtain ⟨k0, k1, rfl⟩ : ∃ k0 k1 : Fin 4096, k = ix2 k0 k1 := ⟨k 0, k 1, eq_ix2 k⟩
    obtain ⟨e0, rfl⟩ := (at_row k0 k1).1 hk
    obtain rfl : k0 = ⟨r.val, hr⟩ := Fin.ext e0
    rfl
  · next hr =>
    refine scatter_set_miss dims x idx u _ fun k hk => ?_
    obtain ⟨k0, k1, rfl⟩ : ∃ k0 k1 : Fin 4096, k = ix2 k0 k1 := ⟨k 0, k 1, eq_ix2 k⟩
    exact hr (((at_row k0 k1).1 hk).1 ▸ k0.isLt)

/-- The index words as the reference scatters at them: a negative one counts from the end. -/
abbrev wrapped (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 8192#32))) a)

/-- The index word 0, 1, 2, … is itself, read signed. -/
theorem wrapped_first (a : IVec S4096 32) (h : ∀ k : Fin 4096, a (ix1 k) = BitVec.ofNat 32 k.val) (k : Fin 4096) :
    (wrapped a (ix2 k (0 : Fin 1))).toInt = (k.val : Int) := by
  have hk : (BitVec.ofNat 32 k.val).toNat = k.val := by
    rw [BitVec.toNat_ofNat]; exact Nat.mod_eq_of_lt (by omega)
  have e : wrapped a (ix2 k (0 : Fin 1)) = Scalar.select (IntOp.cmpi .slt (a (ix1 k)) 0#32) (IntOp.addi (a (ix1 k)) 8192#32) (a (ix1 k)) :=
    bcCol _ _ k
  rw [e, wrap_of_lt _ _ (by rw [h k, hk]; omega), h k, BitVec.toInt_eq_toNat_of_lt (by rw [hk]; omega), hk]

/-- Where the index list is 0, 1, 2, … the reference's result has the rows of `u`, then those of `x`. -/
theorem result_first {α : Type} (x : S8192x4096.Idx → α) (a : IVec S4096 32) (u : S4096x4096.Idx → α)
    (h : ∀ k : Fin 4096, a (ix1 k) = BitVec.ofNat 32 k.val) (r : Fin 8192) (c : Fin 4096) :
    Host.scatter dims (fun _ b => b) x (wrapped a) u (ix2 r c)
      = if hr : r.val < 4096 then u (ix2 (⟨r.val, hr⟩ : Fin 4096) c) else x (ix2 r c) :=
  scatter_first x (wrapped a) u (wrapped_first a h) r c

/-- The precondition says that the index list is 0, 1, 2, …. -/
theorem first_rows (x : FVec F S8192x4096 .f32) (u : FVec F S4096x4096 .f32) (a : IVec S4096 32)
    (h : Cert.Pre_first_rows.fn (F := F) x u a = fun _ => 1#1) (k : Fin 4096) : a (ix1 k) = BitVec.ofNat 32 k.val := by
  haveI : Subsingleton Cert.Pre_first_rows.S_.Idx := ⟨fun i j => funext fun q => q.elim0⟩
  have e := Host.reduce_andi_all _ _ _ _ (fun q => q.elim0) (congrFun h fun q => q.elim0) (ix1 k)
  exact IntOp.cmpi_eq.1 e

/-- The reference runs, leaves its arguments as they were and its counters at zero. -/
theorem run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems rfl r.2⟩) (Value.run m ρ)

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_first_rows
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_first_rows.Gen.facts

/-- The kernel runs, leaves its arguments as they were and every counter at zero: its text is the idealized kernel's, so
    the run is the one proved there. -/
theorem kernel_frame : Cert.quiescent_Kernel := fun m ρ _ =>
  (θ_run Cert.KernelIdeal.defs _ _).mono (fun _ h => ⟨fun c => ⟨(h.1 c).1, (h.1 c).2.1, (h.1 c).2.2.1⟩, h.2⟩) (Copy.run_main (F := Bits) m ρ)

/-- The same of the idealized kernel, at any arguments, and so under the precondition too. -/
theorem ideal_frame : Cert.quiescent_KernelIdeal := fun m ρ _ =>
  (θ_run Cert.KernelIdeal.defs _ _).mono (fun _ h => ⟨fun c => ⟨(h.1 c).1, (h.1 c).2.1, (h.1 c).2.2.1⟩, h.2⟩) (Copy.run_main (F := Ideal) m ρ)

theorem reference_frame : Cert.quiescent_ReferenceIdeal := fun m ρ _ => Reference.run m ρ

/-- What the kernel leaves is what the reference computes, where the index list is 0, 1, 2, …. -/
theorem final_eq {F : FTy → Type} [FloatOps F] (m : (ℓ : Loc Cert.KernelIdeal.nD Cert.KernelIdeal.τ Cert.KernelIdeal.sig) → Buf (Elt F) ℓ) (c : Dev Cert.KernelIdeal.nD)
    (h : ∀ k : Fin 4096, (m (Copy.idxLoc c) : IVec Cert.KernelIdeal.S4096 32) (ix1 k) = BitVec.ofNat 32 k.val) :
    Host.scatter Reference.dims (fun _ b => b) (m (Copy.vlmLoc c) : FVec F Cert.KernelIdeal.S8192x4096 .f32) (Reference.wrapped (m (Copy.idxLoc c)))
      (m (Copy.visLoc c) : FVec F Cert.KernelIdeal.S4096x4096 .f32) = Copy.final m c := by
  refine funext fun i => ?_
  obtain ⟨r, q, rfl⟩ : ∃ (r : Fin 8192) (q : Fin 4096), i = ix2 r q := ⟨i 0, i 1, eq_ix2 i⟩
  refine (Reference.result_first _ _ _ h r q).trans ?_
  show _ = if hr : r.val < 4096 then _ else _
  split
  · refine congrArg (m (Copy.visLoc c)) (funext fun a => ?_)
    match a with
    | 0 => rfl
    | 1 => rfl
  · rfl

/-- The idealized kernel's result is the reference's, where the index list is 0, 1, 2, …. -/
theorem value : Cert.algebraic_KernelIdeal_ReferenceIdeal_pre_first_rows := fun m g m' g' hpre hagree =>
  ⟨fun c => Copy.final m c,
    (θ_run Cert.KernelIdeal.defs _ _).mono (fun _ h c => ⟨(h.1 c).2.2.2, (h.1 c).1, (h.1 c).2.1, (h.1 c).2.2.1⟩) (Copy.run_main (F := Ideal) m g),
    (θ_run Cert.ReferenceIdeal.defs _ _).mono (fun _ h c => ⟨(h c).1.trans (by
      rw [(hagree c).1, (hagree c).2.1, (hagree c).2.2]
      exact final_eq m c (Reference.first_rows _ _ _ (hpre c))), (h c).2⟩) (Cert.ReferenceIdeal.Value.run m' g')⟩

theorem claim : Cert.Claim := ⟨Cert.Kernel.Gen.facts, Cert.KernelIdeal.Gen.facts, Cert.ReferenceIdeal.Gen.facts, Cert.Pre_first_rows.Gen.facts,
  kernel_frame, ideal_frame, fun m ρ _ => ideal_frame m ρ trivial, reference_frame, fun m ρ _ => reference_frame m ρ trivial, trivial, value⟩

end Cert.Proof

end
